-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_named_KernelIdeal [hPre_finite_and_named_KernelIdeal : Cert.Pre_finite_and_named_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_named_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_named_ReferenceIdeal [hPre_finite_and_named_ReferenceIdeal : Cert.Pre_finite_and_named_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_named_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_and_named_KernelIdeal [hKernelIdeal : Cert.KernelIdeal.Facts] [hPre_finite_and_named_KernelIdeal : Cert.Pre_finite_and_named_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_named_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_and_named_ReferenceIdeal [hReferenceIdeal : Cert.ReferenceIdeal.Facts] [hPre_finite_and_named_ReferenceIdeal : Cert.Pre_finite_and_named_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_named_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_and_named_KernelIdeal [hKernelIdeal : Cert.KernelIdeal.Facts] [hReferenceIdeal : Cert.ReferenceIdeal.Facts] [hPre_finite_and_named_KernelIdeal : Cert.Pre_finite_and_named_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_named_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![1024, 8192]⟩ ⟨2, ![1024, 16384]⟩ (Layout.meshBlock [2, 2, 2] ![[], [1]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v26) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_and_named_KernelIdeal : Cert.Pre_finite_and_named_KernelIdeal.Facts) (hPre_finite_and_named_ReferenceIdeal : Cert.Pre_finite_and_named_ReferenceIdeal.Facts),
    quiescent_Kernel (hKernel := hKernel)
    ∧ quiescent_KernelIdeal (hKernelIdeal := hKernelIdeal)
    ∧ quiescent_KernelIdeal_pre_finite_and_named_KernelIdeal (hKernelIdeal := hKernelIdeal) (hPre_finite_and_named_KernelIdeal := hPre_finite_and_named_KernelIdeal)
    ∧ quiescent_ReferenceIdeal (hReferenceIdeal := hReferenceIdeal)
    ∧ quiescent_ReferenceIdeal_pre_finite_and_named_ReferenceIdeal (hReferenceIdeal := hReferenceIdeal) (hPre_finite_and_named_ReferenceIdeal := hPre_finite_and_named_ReferenceIdeal)
    ∧ preserves_Kernel_KernelIdeal
    ∧ algebraic_KernelIdeal_ReferenceIdeal_pre_finite_and_named_KernelIdeal (hKernelIdeal := hKernelIdeal) (hReferenceIdeal := hReferenceIdeal) (hPre_finite_and_named_KernelIdeal := hPre_finite_and_named_KernelIdeal)
-- ==== Pre_finite_and_named_KernelIdeal.lean ====
abbrev S512x1024 : Shape := ⟨2, ![512, 1024]⟩
abbrev S1024x8192 : Shape := ⟨2, ![1024, 8192]⟩
abbrev S512 : Shape := ⟨1, ![512]⟩
abbrev S_ : Shape := ⟨0, ![]⟩

class Facts : Prop where
  bcast_S_S512x1024 : S_.BroadcastsInDim S512x1024 (![] : Fin 0 → Fin S512x1024.rank)
  reducesTo_S512x1024_S_d0_1 : S512x1024.ReducesTo [0, 1] S_
  h_S_ : 0 < S_.numel
  bcast_S_S1024x8192 : S_.BroadcastsInDim S1024x8192 (![] : Fin 0 → Fin S1024x8192.rank)
  reducesTo_S1024x8192_S_d0_1 : S1024x8192.ReducesTo [0, 1] S_
  bcast_S_S512 : S_.BroadcastsInDim S512 (![] : Fin 0 → Fin S512.rank)
  reducesTo_S512_S_d0 : S512.ReducesTo [0] S_

variable [Facts]

def fn {F : FTy → Type} [FloatOps F] (main_arg0 : FVec F S512x1024 .f32) (main_arg1 : FVec F S1024x8192 .f32) (main_arg2 : IVec S512 32) : IVec S_ 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_c : IVec S_ 1 := constantI S_ 1 1#1
  let main_v3 : IVec S_ 1 := (fun x v => Host.reduce IntOp.andi x v reducesTo_S512x1024_S_d0_1 h_S_) main_v2 main_c
  let main_v4 : FVec F S1024x8192 .f32 := Host.absf main_arg1
  let main_cst_0 : FVec F S_ .f32 := constant S_ .f32 0x7F800000#32
  let main_v5 : FVec F S1024x8192 .f32 := broadcastInDim S1024x8192 ![] bcast_S_S1024x8192 main_cst_0
  let main_v6 : IVec S1024x8192 1 := cmpf .olt main_v4 main_v5
  let main_c_1 : IVec S_ 1 := constantI S_ 1 1#1
  let main_v7 : IVec S_ 1 := (fun x v => Host.reduce IntOp.andi x v reducesTo_S1024x8192_S_d0_1 h_S_) main_v6 main_c_1
  let main_v8 : IVec S_ 1 := andi main_v3 main_v7
  let main_c_2 : IVec S_ 32 := constantI S_ 32 0#32
  let main_v9 : IVec S512 32 := broadcastInDim S512 ![] bcast_S_S512 main_c_2
  let main_v10 : IVec S512 1 := cmpi .sge main_arg2 main_v9
  let main_c_3 : IVec S_ 32 := constantI S_ 32 16384#32
  let main_v11 : IVec S512 32 := broadcastInDim S512 ![] bcast_S_S512 main_c_3
  let main_v12 : IVec S512 1 := cmpi .slt main_arg2 main_v11
  let main_v13 : IVec S512 1 := andi main_v10 main_v12
  let main_c_4 : IVec S_ 1 := constantI S_ 1 1#1
  let main_v14 : IVec S_ 1 := (fun x v => Host.reduce IntOp.andi x v reducesTo_S512_S_d0 h_S_) main_v13 main_c_4
  let main_v15 : IVec S_ 1 := andi main_v8 main_v14
  main_v15
-- ==== Pre_finite_and_named_ReferenceIdeal.lean ====
abbrev S512x1024 : Shape := ⟨2, ![512, 1024]⟩
abbrev S1024x16384 : Shape := ⟨2, ![1024, 16384]⟩
abbrev S512 : Shape := ⟨1, ![512]⟩
abbrev S_ : Shape := ⟨0, ![]⟩

class Facts : Prop where
  bcast_S_S512x1024 : S_.BroadcastsInDim S512x1024 (![] : Fin 0 → Fin S512x1024.rank)
  reducesTo_S512x1024_S_d0_1 : S512x1024.ReducesTo [0, 1] S_
  h_S_ : 0 < S_.numel
  bcast_S_S1024x16384 : S_.BroadcastsInDim S1024x16384 (![] : Fin 0 → Fin S1024x16384.rank)
  reducesTo_S1024x16384_S_d0_1 : S1024x16384.ReducesTo [0, 1] S_
  bcast_S_S512 : S_.BroadcastsInDim S512 (![] : Fin 0 → Fin S512.rank)
  reducesTo_S512_S_d0 : S512.ReducesTo [0] S_

variable [Facts]

def fn {F : FTy → Type} [FloatOps F] (main_arg0 : FVec F S512x1024 .f32) (main_arg1 : FVec F S1024x16384 .f32) (main_arg2 : IVec S512 32) : IVec S_ 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_c : IVec S_ 1 := constantI S_ 1 1#1
  let main_v3 : IVec S_ 1 := (fun x v => Host.reduce IntOp.andi x v reducesTo_S512x1024_S_d0_1 h_S_) main_v2 main_c
  let main_v4 : FVec F S1024x16384 .f32 := Host.absf main_arg1
  let main_cst_0 : FVec F S_ .f32 := constant S_ .f32 0x7F800000#32
  let main_v5 : FVec F S1024x16384 .f32 := broadcastInDim S1024x16384 ![] bcast_S_S1024x16384 main_cst_0
  let main_v6 : IVec S1024x16384 1 := cmpf .olt main_v4 main_v5
  let main_c_1 : IVec S_ 1 := constantI S_ 1 1#1
  let main_v7 : IVec S_ 1 := (fun x v => Host.reduce IntOp.andi x v reducesTo_S1024x16384_S_d0_1 h_S_) main_v6 main_c_1
  let main_v8 : IVec S_ 1 := andi main_v3 main_v7
  let main_c_2 : IVec S_ 32 := constantI S_ 32 0#32
  let main_v9 : IVec S512 32 := broadcastInDim S512 ![] bcast_S_S512 main_c_2
  let main_v10 : IVec S512 1 := cmpi .sge main_arg2 main_v9
  let main_c_3 : IVec S_ 32 := constantI S_ 32 16384#32
  let main_v11 : IVec S512 32 := broadcastInDim S512 ![] bcast_S_S512 main_c_3
  let main_v12 : IVec S512 1 := cmpi .slt main_arg2 main_v11
  let main_v13 : IVec S512 1 := andi main_v10 main_v12
  let main_c_4 : IVec S_ 1 := constantI S_ 1 1#1
  let main_v14 : IVec S_ 1 := (fun x v => Host.reduce IntOp.andi x v reducesTo_S512_S_d0 h_S_) main_v13 main_c_4
  let main_v15 : IVec S_ 1 := andi main_v8 main_v14
  main_v15
-- ==== Kernel.lean ====
abbrev S512x1024 : Shape := ⟨2, ![512, 1024]⟩
abbrev S1024x8192 : Shape := ⟨2, ![1024, 8192]⟩
abbrev S512 : Shape := ⟨1, ![512]⟩
abbrev S1x512 : Shape := ⟨2, ![1, 512]⟩
abbrev S2x1024x1024 : Shape := ⟨3, ![2, 1024, 1024]⟩
abbrev S8x512 : Shape := ⟨2, ![8, 512]⟩
abbrev S8x8x512 : Shape := ⟨3, ![8, 8, 512]⟩
abbrev S2x2 : Shape := ⟨2, ![2, 2]⟩
abbrev S8 : Shape := ⟨1, ![8]⟩
abbrev S_ : Shape := ⟨0, ![]⟩
abbrev S1x1 : Shape := ⟨2, ![1, 1]⟩
abbrev S1x512x1024 : Shape := ⟨3, ![1, 512, 1024]⟩
abbrev S1024x512 : Shape := ⟨2, ![1024, 512]⟩
abbrev S1x1024 : Shape := ⟨2, ![1, 1024]⟩
abbrev S1x1024x1024 : Shape := ⟨3, ![1, 1024, 1024]⟩
abbrev S1024x1024 : Shape := ⟨2, ![1024, 1024]⟩
abbrev S1 : Shape := ⟨1, ![1]⟩
abbrev S1x2x512 : Shape := ⟨3, ![1, 2, 512]⟩
abbrev S2x512 : Shape := ⟨2, ![2, 512]⟩
abbrev S1x1x512 : Shape := ⟨3, ![1, 1, 512]⟩

abbrev nBuf : Space → Nat
  | .hbm => 6
  | .vmem => 6
  | .smem => 0
  | _ => 0

abbrev bufTy : (tb : Table) → Fin (tcTables nBuf tb) → BufTy
  | .hbm, ⟨0, _⟩ => ⟨S512x1024, .f32⟩
  | .hbm, ⟨1, _⟩ => ⟨S1024x8192, .f32⟩
  | .hbm, ⟨2, _⟩ => ⟨S512, .i32⟩
  | .hbm, ⟨3, _⟩ => ⟨S1x512, .i32⟩
  | .hbm, ⟨4, _⟩ => ⟨S1x512, .f32⟩
  | .hbm, ⟨5, _⟩ => ⟨S512, .f32⟩
  | .local _ .vmem, ⟨0, _⟩ => ⟨S512x1024, .f32⟩
  | .local _ .vmem, ⟨1, _⟩ => ⟨S1x512, .i32⟩
  | .local _ .vmem, ⟨2, _⟩ => ⟨S1x512, .f32⟩
  | .local _ .vmem, ⟨3, _⟩ => ⟨S2x1024x1024, .f32⟩
  | .local _ .vmem, ⟨4, _⟩ => ⟨S8x512, .f32⟩
  | .local _ .vmem, ⟨5, _⟩ => ⟨S8x8x512, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  (ofTc nBuf bufTy 1 23 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_167 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_5 : BitVec 32 := 1#32
  let v13 : BitVec 32 := Scalar.addi v2 c1_i32_5
  let c2_i32_6 : BitVec 32 := 2#32
  let c0_i32 : BitVec 32 := 0#32
  let v14 : BitVec 1 := Scalar.cmpi .eq c2_i32_6 c0_i32
  let c1_i32_7 : BitVec 32 := 1#32
  let v15 : BitVec 32 := Scalar.select v14 c1_i32_7 c2_i32_6
  let v16 : BitVec 32 := Scalar.remsi v13 v15
  let c0_i32_9 : BitVec 32 := 0#32
  let v18 : BitVec 1 := Scalar.cmpi .slt v16 c0_i32_9
  let c0_i32_10 : BitVec 32 := 0#32
  let v19 : BitVec 1 := Scalar.cmpi .slt v15 c0_i32_10
  let v20 : BitVec 1 := Scalar.xori v18 v19
  let c0_i32_8 : BitVec 32 := 0#32
  let v17 : BitVec 1 := Scalar.cmpi .ne v16 c0_i32_8
  let v21 : BitVec 1 := Scalar.andi v20 v17
  let v22 : BitVec 32 := Scalar.addi v16 v15
  let v23 : BitVec 32 := Scalar.select v21 v22 v16
  let c4_i32_166 : BitVec 32 := 4#32
  let v273 : BitVec 32 := Scalar.muli v23 c4_i32_166
  let v274 : BitVec 32 := Scalar.addi c0_i32_167 v273
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_11 : BitVec 32 := 1#32
  let v24 : BitVec 32 := Scalar.addi v5 c1_i32_11
  let c2_i32_12 : BitVec 32 := 2#32
  let c0_i32_13 : BitVec 32 := 0#32
  let v25 : BitVec 1 := Scalar.cmpi .eq c2_i32_12 c0_i32_13
  let c1_i32_14 : BitVec 32 := 1#32
  let v26 : BitVec 32 := Scalar.select v25 c1_i32_14 c2_i32_12
  let v27 : BitVec 32 := Scalar.remsi v24 v26
  let c0_i32_16 : BitVec 32 := 0#32
  let v29 : BitVec 1 := Scalar.cmpi .slt v27 c0_i32_16
  let c0_i32_17 : BitVec 32 := 0#32
  let v30 : BitVec 1 := Scalar.cmpi .slt v26 c0_i32_17
  let v31 : BitVec 1 := Scalar.xori v29 v30
  let c0_i32_15 : BitVec 32 := 0#32
  let v28 : BitVec 1 := Scalar.cmpi .ne v27 c0_i32_15
  let v32 : BitVec 1 := Scalar.andi v31 v28
  let v33 : BitVec 32 := Scalar.addi v27 v26
  let v34 : BitVec 32 := Scalar.select v32 v33 v27
  let c2_i32_168 : BitVec 32 := 2#32
  let v275 : BitVec 32 := Scalar.muli v34 c2_i32_168
  let v276 : BitVec 32 := Scalar.addi v274 v275
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_18 : BitVec 32 := 1#32
  let v35 : BitVec 32 := Scalar.addi v8 c1_i32_18
  let c2_i32_19 : BitVec 32 := 2#32
  let c0_i32_20 : BitVec 32 := 0#32
  let v36 : BitVec 1 := Scalar.cmpi .eq c2_i32_19 c0_i32_20
  let c1_i32_21 : BitVec 32 := 1#32
  let v37 : BitVec 32 := Scalar.select v36 c1_i32_21 c2_i32_19
  let v38 : BitVec 32 := Scalar.remsi v35 v37
  let c0_i32_23 : BitVec 32 := 0#32
  let v40 : BitVec 1 := Scalar.cmpi .slt v38 c0_i32_23
  let c0_i32_24 : BitVec 32 := 0#32
  let v41 : BitVec 1 := Scalar.cmpi .slt v37 c0_i32_24
  let v42 : BitVec 1 := Scalar.xori v40 v41
  let c0_i32_22 : BitVec 32 := 0#32
  let v39 : BitVec 1 := Scalar.cmpi .ne v38 c0_i32_22
  let v43 : BitVec 1 := Scalar.andi v42 v39
  let v44 : BitVec 32 := Scalar.addi v38 v37
  let v45 : BitVec 32 := Scalar.select v43 v44 v38
  let c1_i32_169 : BitVec 32 := 1#32
  let v277 : BitVec 32 := Scalar.muli v45 c1_i32_169
  let v278 : BitVec 32 := Scalar.addi v276 v277
  v278.toNat
def k0_dev2 (d0 : Dev nD) : Nat :=
  let c0_i32_172 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_25 : BitVec 32 := 0#32
  let v46 : BitVec 32 := Scalar.addi v2 c0_i32_25
  let c2_i32_26 : BitVec 32 := 2#32
  let c0_i32_27 : BitVec 32 := 0#32
  let v47 : BitVec 1 := Scalar.cmpi .eq c2_i32_26 c0_i32_27
  let c1_i32_28 : BitVec 32 := 1#32
  let v48 : BitVec 32 := Scalar.select v47 c1_i32_28 c2_i32_26
  let v49 : BitVec 32 := Scalar.remsi v46 v48
  let c0_i32_30 : BitVec 32 := 0#32
  let v51 : BitVec 1 := Scalar.cmpi .slt v49 c0_i32_30
  let c0_i32_31 : BitVec 32 := 0#32
  let v52 : BitVec 1 := Scalar.cmpi .slt v48 c0_i32_31
  let v53 : BitVec 1 := Scalar.xori v51 v52
  let c0_i32_29 : BitVec 32 := 0#32
  let v50 : BitVec 1 := Scalar.cmpi .ne v49 c0_i32_29
  let v54 : BitVec 1 := Scalar.andi v53 v50
  let v55 : BitVec 32 := Scalar.addi v49 v48
  let v56 : BitVec 32 := Scalar.select v54 v55 v49
  let c4_i32_171 : BitVec 32 := 4#32
  let v279 : BitVec 32 := Scalar.muli v56 c4_i32_171
  let v280 : BitVec 32 := Scalar.addi c0_i32_172 v279
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_32 : BitVec 32 := 1#32
  let v57 : BitVec 32 := Scalar.addi v5 c1_i32_32
  let c2_i32_33 : BitVec 32 := 2#32
  let c0_i32_34 : BitVec 32 := 0#32
  let v58 : BitVec 1 := Scalar.cmpi .eq c2_i32_33 c0_i32_34
  let c1_i32_35 : BitVec 32 := 1#32
  let v59 : BitVec 32 := Scalar.select v58 c1_i32_35 c2_i32_33
  let v60 : BitVec 32 := Scalar.remsi v57 v59
  let c0_i32_37 : BitVec 32 := 0#32
  let v62 : BitVec 1 := Scalar.cmpi .slt v60 c0_i32_37
  let c0_i32_38 : BitVec 32 := 0#32
  let v63 : BitVec 1 := Scalar.cmpi .slt v59 c0_i32_38
  let v64 : BitVec 1 := Scalar.xori v62 v63
  let c0_i32_36 : BitVec 32 := 0#32
  let v61 : BitVec 1 := Scalar.cmpi .ne v60 c0_i32_36
  let v65 : BitVec 1 := Scalar.andi v64 v61
  let v66 : BitVec 32 := Scalar.addi v60 v59
  let v67 : BitVec 32 := Scalar.select v65 v66 v60
  let c2_i32_173 : BitVec 32 := 2#32
  let v281 : BitVec 32 := Scalar.muli v67 c2_i32_173
  let v282 : BitVec 32 := Scalar.addi v280 v281
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_39 : BitVec 32 := 1#32
  let v68 : BitVec 32 := Scalar.addi v8 c1_i32_39
  let c2_i32_40 : BitVec 32 := 2#32
  let c0_i32_41 : BitVec 32 := 0#32
  let v69 : BitVec 1 := Scalar.cmpi .eq c2_i32_40 c0_i32_41
  let c1_i32_42 : BitVec 32 := 1#32
  let v70 : BitVec 32 := Scalar.select v69 c1_i32_42 c2_i32_40
  let v71 : BitVec 32 := Scalar.remsi v68 v70
  let c0_i32_44 : BitVec 32 := 0#32
  let v73 : BitVec 1 := Scalar.cmpi .slt v71 c0_i32_44
  let c0_i32_45 : BitVec 32 := 0#32
  let v74 : BitVec 1 := Scalar.cmpi .slt v70 c0_i32_45
  let v75 : BitVec 1 := Scalar.xori v73 v74
  let c0_i32_43 : BitVec 32 := 0#32
  let v72 : BitVec 1 := Scalar.cmpi .ne v71 c0_i32_43
  let v76 : BitVec 1 := Scalar.andi v75 v72
  let v77 : BitVec 32 := Scalar.addi v71 v70
  let v78 : BitVec 32 := Scalar.select v76 v77 v71
  let c1_i32_174 : BitVec 32 := 1#32
  let v283 : BitVec 32 := Scalar.muli v78 c1_i32_174
  let v284 : BitVec 32 := Scalar.addi v282 v283
  v284.toNat
def k0_dev3 (d0 : Dev nD) : Nat :=
  let c0_i32_177 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_46 : BitVec 32 := 1#32
  let v79 : BitVec 32 := Scalar.addi v2 c1_i32_46
  let c2_i32_47 : BitVec 32 := 2#32
  let c0_i32_48 : BitVec 32 := 0#32
  let v80 : BitVec 1 := Scalar.cmpi .eq c2_i32_47 c0_i32_48
  let c1_i32_49 : BitVec 32 := 1#32
  let v81 : BitVec 32 := Scalar.select v80 c1_i32_49 c2_i32_47
  let v82 : BitVec 32 := Scalar.remsi v79 v81
  let c0_i32_51 : BitVec 32 := 0#32
  let v84 : BitVec 1 := Scalar.cmpi .slt v82 c0_i32_51
  let c0_i32_52 : BitVec 32 := 0#32
  let v85 : BitVec 1 := Scalar.cmpi .slt v81 c0_i32_52
  let v86 : BitVec 1 := Scalar.xori v84 v85
  let c0_i32_50 : BitVec 32 := 0#32
  let v83 : BitVec 1 := Scalar.cmpi .ne v82 c0_i32_50
  let v87 : BitVec 1 := Scalar.andi v86 v83
  let v88 : BitVec 32 := Scalar.addi v82 v81
  let v89 : BitVec 32 := Scalar.select v87 v88 v82
  let c4_i32_176 : BitVec 32 := 4#32
  let v285 : BitVec 32 := Scalar.muli v89 c4_i32_176
  let v286 : BitVec 32 := Scalar.addi c0_i32_177 v285
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_53 : BitVec 32 := 0#32
  let v90 : BitVec 32 := Scalar.addi v5 c0_i32_53
  let c2_i32_54 : BitVec 32 := 2#32
  let c0_i32_55 : BitVec 32 := 0#32
  let v91 : BitVec 1 := Scalar.cmpi .eq c2_i32_54 c0_i32_55
  let c1_i32_56 : BitVec 32 := 1#32
  let v92 : BitVec 32 := Scalar.select v91 c1_i32_56 c2_i32_54
  let v93 : BitVec 32 := Scalar.remsi v90 v92
  let c0_i32_58 : BitVec 32 := 0#32
  let v95 : BitVec 1 := Scalar.cmpi .slt v93 c0_i32_58
  let c0_i32_59 : BitVec 32 := 0#32
  let v96 : BitVec 1 := Scalar.cmpi .slt v92 c0_i32_59
  let v97 : BitVec 1 := Scalar.xori v95 v96
  let c0_i32_57 : BitVec 32 := 0#32
  let v94 : BitVec 1 := Scalar.cmpi .ne v93 c0_i32_57
  let v98 : BitVec 1 := Scalar.andi v97 v94
  let v99 : BitVec 32 := Scalar.addi v93 v92
  let v100 : BitVec 32 := Scalar.select v98 v99 v93
  let c2_i32_178 : BitVec 32 := 2#32
  let v287 : BitVec 32 := Scalar.muli v100 c2_i32_178
  let v288 : BitVec 32 := Scalar.addi v286 v287
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_60 : BitVec 32 := 1#32
  let v101 : BitVec 32 := Scalar.addi v8 c1_i32_60
  let c2_i32_61 : BitVec 32 := 2#32
  let c0_i32_62 : BitVec 32 := 0#32
  let v102 : BitVec 1 := Scalar.cmpi .eq c2_i32_61 c0_i32_62
  let c1_i32_63 : BitVec 32 := 1#32
  let v103 : BitVec 32 := Scalar.select v102 c1_i32_63 c2_i32_61
  let v104 : BitVec 32 := Scalar.remsi v101 v103
  let c0_i32_65 : BitVec 32 := 0#32
  let v106 : BitVec 1 := Scalar.cmpi .slt v104 c0_i32_65
  let c0_i32_66 : BitVec 32 := 0#32
  let v107 : BitVec 1 := Scalar.cmpi .slt v103 c0_i32_66
  let v108 : BitVec 1 := Scalar.xori v106 v107
  let c0_i32_64 : BitVec 32 := 0#32
  let v105 : BitVec 1 := Scalar.cmpi .ne v104 c0_i32_64
  let v109 : BitVec 1 := Scalar.andi v108 v105
  let v110 : BitVec 32 := Scalar.addi v104 v103
  let v111 : BitVec 32 := Scalar.select v109 v110 v104
  let c1_i32_179 : BitVec 32 := 1#32
  let v289 : BitVec 32 := Scalar.muli v111 c1_i32_179
  let v290 : BitVec 32 := Scalar.addi v288 v289
  v290.toNat
def k0_dev4 (d0 : Dev nD) : Nat :=
  let c0_i32_182 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_67 : BitVec 32 := 1#32
  let v112 : BitVec 32 := Scalar.addi v2 c1_i32_67
  let c2_i32_68 : BitVec 32 := 2#32
  let c0_i32_69 : BitVec 32 := 0#32
  let v113 : BitVec 1 := Scalar.cmpi .eq c2_i32_68 c0_i32_69
  let c1_i32_70 : BitVec 32 := 1#32
  let v114 : BitVec 32 := Scalar.select v113 c1_i32_70 c2_i32_68
  let v115 : BitVec 32 := Scalar.remsi v112 v114
  let c0_i32_72 : BitVec 32 := 0#32
  let v117 : BitVec 1 := Scalar.cmpi .slt v115 c0_i32_72
  let c0_i32_73 : BitVec 32 := 0#32
  let v118 : BitVec 1 := Scalar.cmpi .slt v114 c0_i32_73
  let v119 : BitVec 1 := Scalar.xori v117 v118
  let c0_i32_71 : BitVec 32 := 0#32
  let v116 : BitVec 1 := Scalar.cmpi .ne v115 c0_i32_71
  let v120 : BitVec 1 := Scalar.andi v119 v116
  let v121 : BitVec 32 := Scalar.addi v115 v114
  let v122 : BitVec 32 := Scalar.select v120 v121 v115
  let c4_i32_181 : BitVec 32 := 4#32
  let v291 : BitVec 32 := Scalar.muli v122 c4_i32_181
  let v292 : BitVec 32 := Scalar.addi c0_i32_182 v291
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_74 : BitVec 32 := 1#32
  let v123 : BitVec 32 := Scalar.addi v5 c1_i32_74
  let c2_i32_75 : BitVec 32 := 2#32
  let c0_i32_76 : BitVec 32 := 0#32
  let v124 : BitVec 1 := Scalar.cmpi .eq c2_i32_75 c0_i32_76
  let c1_i32_77 : BitVec 32 := 1#32
  let v125 : BitVec 32 := Scalar.select v124 c1_i32_77 c2_i32_75
  let v126 : BitVec 32 := Scalar.remsi v123 v125
  let c0_i32_79 : BitVec 32 := 0#32
  let v128 : BitVec 1 := Scalar.cmpi .slt v126 c0_i32_79
  let c0_i32_80 : BitVec 32 := 0#32
  let v129 : BitVec 1 := Scalar.cmpi .slt v125 c0_i32_80
  let v130 : BitVec 1 := Scalar.xori v128 v129
  let c0_i32_78 : BitVec 32 := 0#32
  let v127 : BitVec 1 := Scalar.cmpi .ne v126 c0_i32_78
  let v131 : BitVec 1 := Scalar.andi v130 v127
  let v132 : BitVec 32 := Scalar.addi v126 v125
  let v133 : BitVec 32 := Scalar.select v131 v132 v126
  let c2_i32_183 : BitVec 32 := 2#32
  let v293 : BitVec 32 := Scalar.muli v133 c2_i32_183
  let v294 : BitVec 32 := Scalar.addi v292 v293
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_81 : BitVec 32 := 0#32
  let v134 : BitVec 32 := Scalar.addi v8 c0_i32_81
  let c2_i32_82 : BitVec 32 := 2#32
  let c0_i32_83 : BitVec 32 := 0#32
  let v135 : BitVec 1 := Scalar.cmpi .eq c2_i32_82 c0_i32_83
  let c1_i32_84 : BitVec 32 := 1#32
  let v136 : BitVec 32 := Scalar.select v135 c1_i32_84 c2_i32_82
  let v137 : BitVec 32 := Scalar.remsi v134 v136
  let c0_i32_86 : BitVec 32 := 0#32
  let v139 : BitVec 1 := Scalar.cmpi .slt v137 c0_i32_86
  let c0_i32_87 : BitVec 32 := 0#32
  let v140 : BitVec 1 := Scalar.cmpi .slt v136 c0_i32_87
  let v141 : BitVec 1 := Scalar.xori v139 v140
  let c0_i32_85 : BitVec 32 := 0#32
  let v138 : BitVec 1 := Scalar.cmpi .ne v137 c0_i32_85
  let v142 : BitVec 1 := Scalar.andi v141 v138
  let v143 : BitVec 32 := Scalar.addi v137 v136
  let v144 : BitVec 32 := Scalar.select v142 v143 v137
  let c1_i32_184 : BitVec 32 := 1#32
  let v295 : BitVec 32 := Scalar.muli v144 c1_i32_184
  let v296 : BitVec 32 := Scalar.addi v294 v295
  v296.toNat
def k0_dev5 (d0 : Dev nD) : Nat :=
  let c0_i32_187 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_88 : BitVec 32 := 0#32
  let v145 : BitVec 32 := Scalar.addi v2 c0_i32_88
  let c2_i32_89 : BitVec 32 := 2#32
  let c0_i32_90 : BitVec 32 := 0#32
  let v146 : BitVec 1 := Scalar.cmpi .eq c2_i32_89 c0_i32_90
  let c1_i32_91 : BitVec 32 := 1#32
  let v147 : BitVec 32 := Scalar.select v146 c1_i32_91 c2_i32_89
  let v148 : BitVec 32 := Scalar.remsi v145 v147
  let c0_i32_93 : BitVec 32 := 0#32
  let v150 : BitVec 1 := Scalar.cmpi .slt v148 c0_i32_93
  let c0_i32_94 : BitVec 32 := 0#32
  let v151 : BitVec 1 := Scalar.cmpi .slt v147 c0_i32_94
  let v152 : BitVec 1 := Scalar.xori v150 v151
  let c0_i32_92 : BitVec 32 := 0#32
  let v149 : BitVec 1 := Scalar.cmpi .ne v148 c0_i32_92
  let v153 : BitVec 1 := Scalar.andi v152 v149
  let v154 : BitVec 32 := Scalar.addi v148 v147
  let v155 : BitVec 32 := Scalar.select v153 v154 v148
  let c4_i32_186 : BitVec 32 := 4#32
  let v297 : BitVec 32 := Scalar.muli v155 c4_i32_186
  let v298 : BitVec 32 := Scalar.addi c0_i32_187 v297
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_95 : BitVec 32 := 0#32
  let v156 : BitVec 32 := Scalar.addi v5 c0_i32_95
  let c2_i32_96 : BitVec 32 := 2#32
  let c0_i32_97 : BitVec 32 := 0#32
  let v157 : BitVec 1 := Scalar.cmpi .eq c2_i32_96 c0_i32_97
  let c1_i32_98 : BitVec 32 := 1#32
  let v158 : BitVec 32 := Scalar.select v157 c1_i32_98 c2_i32_96
  let v159 : BitVec 32 := Scalar.remsi v156 v158
  let c0_i32_100 : BitVec 32 := 0#32
  let v161 : BitVec 1 := Scalar.cmpi .slt v159 c0_i32_100
  let c0_i32_101 : BitVec 32 := 0#32
  let v162 : BitVec 1 := Scalar.cmpi .slt v158 c0_i32_101
  let v163 : BitVec 1 := Scalar.xori v161 v162
  let c0_i32_99 : BitVec 32 := 0#32
  let v160 : BitVec 1 := Scalar.cmpi .ne v159 c0_i32_99
  let v164 : BitVec 1 := Scalar.andi v163 v160
  let v165 : BitVec 32 := Scalar.addi v159 v158
  let v166 : BitVec 32 := Scalar.select v164 v165 v159
  let c2_i32_188 : BitVec 32 := 2#32
  let v299 : BitVec 32 := Scalar.muli v166 c2_i32_188
  let v300 : BitVec 32 := Scalar.addi v298 v299
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_102 : BitVec 32 := 1#32
  let v167 : BitVec 32 := Scalar.addi v8 c1_i32_102
  let c2_i32_103 : BitVec 32 := 2#32
  let c0_i32_104 : BitVec 32 := 0#32
  let v168 : BitVec 1 := Scalar.cmpi .eq c2_i32_103 c0_i32_104
  let c1_i32_105 : BitVec 32 := 1#32
  let v169 : BitVec 32 := Scalar.select v168 c1_i32_105 c2_i32_103
  let v170 : BitVec 32 := Scalar.remsi v167 v169
  let c0_i32_107 : BitVec 32 := 0#32
  let v172 : BitVec 1 := Scalar.cmpi .slt v170 c0_i32_107
  let c0_i32_108 : BitVec 32 := 0#32
  let v173 : BitVec 1 := Scalar.cmpi .slt v169 c0_i32_108
  let v174 : BitVec 1 := Scalar.xori v172 v173
  let c0_i32_106 : BitVec 32 := 0#32
  let v171 : BitVec 1 := Scalar.cmpi .ne v170 c0_i32_106
  let v175 : BitVec 1 := Scalar.andi v174 v171
  let v176 : BitVec 32 := Scalar.addi v170 v169
  let v177 : BitVec 32 := Scalar.select v175 v176 v170
  let c1_i32_189 : BitVec 32 := 1#32
  let v301 : BitVec 32 := Scalar.muli v177 c1_i32_189
  let v302 : BitVec 32 := Scalar.addi v300 v301
  v302.toNat
def k0_dev6 (d0 : Dev nD) : Nat :=
  let c0_i32_192 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_109 : BitVec 32 := 0#32
  let v178 : BitVec 32 := Scalar.addi v2 c0_i32_109
  let c2_i32_110 : BitVec 32 := 2#32
  let c0_i32_111 : BitVec 32 := 0#32
  let v179 : BitVec 1 := Scalar.cmpi .eq c2_i32_110 c0_i32_111
  let c1_i32_112 : BitVec 32 := 1#32
  let v180 : BitVec 32 := Scalar.select v179 c1_i32_112 c2_i32_110
  let v181 : BitVec 32 := Scalar.remsi v178 v180
  let c0_i32_114 : BitVec 32 := 0#32
  let v183 : BitVec 1 := Scalar.cmpi .slt v181 c0_i32_114
  let c0_i32_115 : BitVec 32 := 0#32
  let v184 : BitVec 1 := Scalar.cmpi .slt v180 c0_i32_115
  let v185 : BitVec 1 := Scalar.xori v183 v184
  let c0_i32_113 : BitVec 32 := 0#32
  let v182 : BitVec 1 := Scalar.cmpi .ne v181 c0_i32_113
  let v186 : BitVec 1 := Scalar.andi v185 v182
  let v187 : BitVec 32 := Scalar.addi v181 v180
  let v188 : BitVec 32 := Scalar.select v186 v187 v181
  let c4_i32_191 : BitVec 32 := 4#32
  let v303 : BitVec 32 := Scalar.muli v188 c4_i32_191
  let v304 : BitVec 32 := Scalar.addi c0_i32_192 v303
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_116 : BitVec 32 := 1#32
  let v189 : BitVec 32 := Scalar.addi v5 c1_i32_116
  let c2_i32_117 : BitVec 32 := 2#32
  let c0_i32_118 : BitVec 32 := 0#32
  let v190 : BitVec 1 := Scalar.cmpi .eq c2_i32_117 c0_i32_118
  let c1_i32_119 : BitVec 32 := 1#32
  let v191 : BitVec 32 := Scalar.select v190 c1_i32_119 c2_i32_117
  let v192 : BitVec 32 := Scalar.remsi v189 v191
  let c0_i32_121 : BitVec 32 := 0#32
  let v194 : BitVec 1 := Scalar.cmpi .slt v192 c0_i32_121
  let c0_i32_122 : BitVec 32 := 0#32
  let v195 : BitVec 1 := Scalar.cmpi .slt v191 c0_i32_122
  let v196 : BitVec 1 := Scalar.xori v194 v195
  let c0_i32_120 : BitVec 32 := 0#32
  let v193 : BitVec 1 := Scalar.cmpi .ne v192 c0_i32_120
  let v197 : BitVec 1 := Scalar.andi v196 v193
  let v198 : BitVec 32 := Scalar.addi v192 v191
  let v199 : BitVec 32 := Scalar.select v197 v198 v192
  let c2_i32_193 : BitVec 32 := 2#32
  let v305 : BitVec 32 := Scalar.muli v199 c2_i32_193
  let v306 : BitVec 32 := Scalar.addi v304 v305
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_123 : BitVec 32 := 0#32
  let v200 : BitVec 32 := Scalar.addi v8 c0_i32_123
  let c2_i32_124 : BitVec 32 := 2#32
  let c0_i32_125 : BitVec 32 := 0#32
  let v201 : BitVec 1 := Scalar.cmpi .eq c2_i32_124 c0_i32_125
  let c1_i32_126 : BitVec 32 := 1#32
  let v202 : BitVec 32 := Scalar.select v201 c1_i32_126 c2_i32_124
  let v203 : BitVec 32 := Scalar.remsi v200 v202
  let c0_i32_128 : BitVec 32 := 0#32
  let v205 : BitVec 1 := Scalar.cmpi .slt v203 c0_i32_128
  let c0_i32_129 : BitVec 32 := 0#32
  let v206 : BitVec 1 := Scalar.cmpi .slt v202 c0_i32_129
  let v207 : BitVec 1 := Scalar.xori v205 v206
  let c0_i32_127 : BitVec 32 := 0#32
  let v204 : BitVec 1 := Scalar.cmpi .ne v203 c0_i32_127
  let v208 : BitVec 1 := Scalar.andi v207 v204
  let v209 : BitVec 32 := Scalar.addi v203 v202
  let v210 : BitVec 32 := Scalar.select v208 v209 v203
  let c1_i32_194 : BitVec 32 := 1#32
  let v307 : BitVec 32 := Scalar.muli v210 c1_i32_194
  let v308 : BitVec 32 := Scalar.addi v306 v307
  v308.toNat
def k0_dev7 (d0 : Dev nD) : Nat :=
  let c0_i32_197 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_130 : BitVec 32 := 1#32
  let v211 : BitVec 32 := Scalar.addi v2 c1_i32_130
  let c2_i32_131 : BitVec 32 := 2#32
  let c0_i32_132 : BitVec 32 := 0#32
  let v212 : BitVec 1 := Scalar.cmpi .eq c2_i32_131 c0_i32_132
  let c1_i32_133 : BitVec 32 := 1#32
  let v213 : BitVec 32 := Scalar.select v212 c1_i32_133 c2_i32_131
  let v214 : BitVec 32 := Scalar.remsi v211 v213
  let c0_i32_135 : BitVec 32 := 0#32
  let v216 : BitVec 1 := Scalar.cmpi .slt v214 c0_i32_135
  let c0_i32_136 : BitVec 32 := 0#32
  let v217 : BitVec 1 := Scalar.cmpi .slt v213 c0_i32_136
  let v218 : BitVec 1 := Scalar.xori v216 v217
  let c0_i32_134 : BitVec 32 := 0#32
  let v215 : BitVec 1 := Scalar.cmpi .ne v214 c0_i32_134
  let v219 : BitVec 1 := Scalar.andi v218 v215
  let v220 : BitVec 32 := Scalar.addi v214 v213
  let v221 : BitVec 32 := Scalar.select v219 v220 v214
  let c4_i32_196 : BitVec 32 := 4#32
  let v309 : BitVec 32 := Scalar.muli v221 c4_i32_196
  let v310 : BitVec 32 := Scalar.addi c0_i32_197 v309
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_137 : BitVec 32 := 0#32
  let v222 : BitVec 32 := Scalar.addi v5 c0_i32_137
  let c2_i32_138 : BitVec 32 := 2#32
  let c0_i32_139 : BitVec 32 := 0#32
  let v223 : BitVec 1 := Scalar.cmpi .eq c2_i32_138 c0_i32_139
  let c1_i32_140 : BitVec 32 := 1#32
  let v224 : BitVec 32 := Scalar.select v223 c1_i32_140 c2_i32_138
  let v225 : BitVec 32 := Scalar.remsi v222 v224
  let c0_i32_142 : BitVec 32 := 0#32
  let v227 : BitVec 1 := Scalar.cmpi .slt v225 c0_i32_142
  let c0_i32_143 : BitVec 32 := 0#32
  let v228 : BitVec 1 := Scalar.cmpi .slt v224 c0_i32_143
  let v229 : BitVec 1 := Scalar.xori v227 v228
  let c0_i32_141 : BitVec 32 := 0#32
  let v226 : BitVec 1 := Scalar.cmpi .ne v225 c0_i32_141
  let v230 : BitVec 1 := Scalar.andi v229 v226
  let v231 : BitVec 32 := Scalar.addi v225 v224
  let v232 : BitVec 32 := Scalar.select v230 v231 v225
  let c2_i32_198 : BitVec 32 := 2#32
  let v311 : BitVec 32 := Scalar.muli v232 c2_i32_198
  let v312 : BitVec 32 := Scalar.addi v310 v311
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_144 : BitVec 32 := 0#32
  let v233 : BitVec 32 := Scalar.addi v8 c0_i32_144
  let c2_i32_145 : BitVec 32 := 2#32
  let c0_i32_146 : BitVec 32 := 0#32
  let v234 : BitVec 1 := Scalar.cmpi .eq c2_i32_145 c0_i32_146
  let c1_i32_147 : BitVec 32 := 1#32
  let v235 : BitVec 32 := Scalar.select v234 c1_i32_147 c2_i32_145
  let v236 : BitVec 32 := Scalar.remsi v233 v235
  let c0_i32_149 : BitVec 32 := 0#32
  let v238 : BitVec 1 := Scalar.cmpi .slt v236 c0_i32_149
  let c0_i32_150 : BitVec 32 := 0#32
  let v239 : BitVec 1 := Scalar.cmpi .slt v235 c0_i32_150
  let v240 : BitVec 1 := Scalar.xori v238 v239
  let c0_i32_148 : BitVec 32 := 0#32
  let v237 : BitVec 1 := Scalar.cmpi .ne v236 c0_i32_148
  let v241 : BitVec 1 := Scalar.andi v240 v237
  let v242 : BitVec 32 := Scalar.addi v236 v235
  let v243 : BitVec 32 := Scalar.select v241 v242 v236
  let c1_i32_199 : BitVec 32 := 1#32
  let v313 : BitVec 32 := Scalar.muli v243 c1_i32_199
  let v314 : BitVec 32 := Scalar.addi v312 v313
  v314.toNat
def k0_off1 (d0 : Dev nD) (c0_i32_200 : BitVec 32) : Fin 2 → Nat :=
  let c0_i32_207 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32 : BitVec 32 := 4096#32
  let v315 : BitVec 32 := Scalar.muli v8 c4096_i32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2048_i32 : BitVec 32 := 2048#32
  let v316 : BitVec 32 := Scalar.muli v2 c2048_i32
  let v317 : BitVec 32 := Scalar.addi v315 v316
  let v318 : BitVec 32 := Scalar.addi v317 c0_i32_200
  ![0, v318.toNat]
def k0_off2 (d0 : Dev nD) (c0_i32_201 : BitVec 32) : Fin 2 → Nat :=
  let c512_i32_212 : BitVec 32 := 512#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c4096_i32 : BitVec 32 := 4096#32
  let v315 : BitVec 32 := Scalar.muli v8 c4096_i32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c2048_i32 : BitVec 32 := 2048#32
  let v316 : BitVec 32 := Scalar.muli v2 c2048_i32
  let v317 : BitVec 32 := Scalar.addi v315 v316
  let v319 : BitVec 32 := Scalar.addi v317 c0_i32_201
  ![512, v319.toNat]
def k0_off3 (d0 : Dev nD) (c1_i32_5 : BitVec 32) (c1_i32_11 : BitVec 32) (c1_i32_18 : BitVec 32) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.addi v2 c1_i32_5
  let c2_i32_6 : BitVec 32 := 2#32
  let c0_i32 : BitVec 32 := 0#32
  let v14 : BitVec 1 := Scalar.cmpi .eq c2_i32_6 c0_i32
  let c1_i32_7 : BitVec 32 := 1#32
  let v15 : BitVec 32 := Scalar.select v14 c1_i32_7 c2_i32_6
  let v16 : BitVec 32 := Scalar.remsi v13 v15
  let c0_i32_9 : BitVec 32 := 0#32
  let v18 : BitVec 1 := Scalar.cmpi .slt v16 c0_i32_9
  let c0_i32_10 : BitVec 32 := 0#32
  let v19 : BitVec 1 := Scalar.cmpi .slt v15 c0_i32_10
  let v20 : BitVec 1 := Scalar.xori v18 v19
  let c0_i32_8 : BitVec 32 := 0#32
  let v17 : BitVec 1 := Scalar.cmpi .ne v16 c0_i32_8
  let v21 : BitVec 1 := Scalar.andi v20 v17
  let v22 : BitVec 32 := Scalar.addi v16 v15
  let v23 : BitVec 32 := Scalar.select v21 v22 v16
  let c4_i32_151 : BitVec 32 := 4#32
  let v244 : BitVec 32 := Scalar.muli v23 c4_i32_151
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v24 : BitVec 32 := Scalar.addi v5 c1_i32_11
  let c2_i32_12 : BitVec 32 := 2#32
  let c0_i32_13 : BitVec 32 := 0#32
  let v25 : BitVec 1 := Scalar.cmpi .eq c2_i32_12 c0_i32_13
  let c1_i32_14 : BitVec 32 := 1#32
  let v26 : BitVec 32 := Scalar.select v25 c1_i32_14 c2_i32_12
  let v27 : BitVec 32 := Scalar.remsi v24 v26
  let c0_i32_16 : BitVec 32 := 0#32
  let v29 : BitVec 1 := Scalar.cmpi .slt v27 c0_i32_16
  let c0_i32_17 : BitVec 32 := 0#32
  let v30 : BitVec 1 := Scalar.cmpi .slt v26 c0_i32_17
  let v31 : BitVec 1 := Scalar.xori v29 v30
  let c0_i32_15 : BitVec 32 := 0#32
  let v28 : BitVec 1 := Scalar.cmpi .ne v27 c0_i32_15
  let v32 : BitVec 1 := Scalar.andi v31 v28
  let v33 : BitVec 32 := Scalar.addi v27 v26
  let v34 : BitVec 32 := Scalar.select v32 v33 v27
  let c2_i32_152 : BitVec 32 := 2#32
  let v245 : BitVec 32 := Scalar.muli v34 c2_i32_152
  let v246 : BitVec 32 := Scalar.addi v244 v245
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v35 : BitVec 32 := Scalar.addi v8 c1_i32_18
  let c2_i32_19 : BitVec 32 := 2#32
  let c0_i32_20 : BitVec 32 := 0#32
  let v36 : BitVec 1 := Scalar.cmpi .eq c2_i32_19 c0_i32_20
  let c1_i32_21 : BitVec 32 := 1#32
  let v37 : BitVec 32 := Scalar.select v36 c1_i32_21 c2_i32_19
  let v38 : BitVec 32 := Scalar.remsi v35 v37
  let c0_i32_23 : BitVec 32 := 0#32
  let v40 : BitVec 1 := Scalar.cmpi .slt v38 c0_i32_23
  let c0_i32_24 : BitVec 32 := 0#32
  let v41 : BitVec 1 := Scalar.cmpi .slt v37 c0_i32_24
  let v42 : BitVec 1 := Scalar.xori v40 v41
  let c0_i32_22 : BitVec 32 := 0#32
  let v39 : BitVec 1 := Scalar.cmpi .ne v38 c0_i32_22
  let v43 : BitVec 1 := Scalar.andi v42 v39
  let v44 : BitVec 32 := Scalar.addi v38 v37
  let v45 : BitVec 32 := Scalar.select v43 v44 v38
  let v247 : BitVec 32 := Scalar.addi v246 v45
  ![v247.toNat]
def k0_off3_at (r : Fin 7) : BitVec 32 × BitVec 32 × BitVec 32 :=
  if r.val < 3 then
    if r.val < 1 then
      (1#32, 1#32, 1#32)
    else
      if r.val < 2 then
        (0#32, 1#32, 1#32)
      else
        (1#32, 0#32, 1#32)
  else
    if r.val < 5 then
      if r.val < 4 then
        (1#32, 1#32, 0#32)
      else
        (0#32, 0#32, 1#32)
    else
      if r.val < 6 then
        (0#32, 1#32, 0#32)
      else
        (1#32, 0#32, 0#32)
def k0_off4 (d0 : Dev nD) : Fin 1 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_3 : BitVec 32 := 4#32
  let v9 : BitVec 32 := Scalar.muli v2 c4_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_4 : BitVec 32 := 2#32
  let v10 : BitVec 32 := Scalar.muli v5 c2_i32_4
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  ![v12.toNat]
def k0_off5 (d0 : Dev nD) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_3 : BitVec 32 := 4#32
  let v9 : BitVec 32 := Scalar.muli v2 c4_i32_3
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_4 : BitVec 32 := 2#32
  let v10 : BitVec 32 := Scalar.muli v5 c2_i32_4
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_282 : BitVec 32 := 0#32
  let c0_i32_283 : BitVec 32 := 0#32
  ![v12.toNat, 0, 0]
def k0_dev8 (d0 : Dev nD) : Nat :=
  let c0_i32_279 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_5 : BitVec 32 := 1#32
  let v13 : BitVec 32 := Scalar.addi v2 c1_i32_5
  let c2_i32_6 : BitVec 32 := 2#32
  let c0_i32 : BitVec 32 := 0#32
  let v14 : BitVec 1 := Scalar.cmpi .eq c2_i32_6 c0_i32
  let c1_i32_7 : BitVec 32 := 1#32
  let v15 : BitVec 32 := Scalar.select v14 c1_i32_7 c2_i32_6
  let v16 : BitVec 32 := Scalar.remsi v13 v15
  let c0_i32_9 : BitVec 32 := 0#32
  let v18 : BitVec 1 := Scalar.cmpi .slt v16 c0_i32_9
  let c0_i32_10 : BitVec 32 := 0#32
  let v19 : BitVec 1 := Scalar.cmpi .slt v15 c0_i32_10
  let v20 : BitVec 1 := Scalar.xori v18 v19
  let c0_i32_8 : BitVec 32 := 0#32
  let v17 : BitVec 1 := Scalar.cmpi .ne v16 c0_i32_8
  let v21 : BitVec 1 := Scalar.andi v20 v17
  let v22 : BitVec 32 := Scalar.addi v16 v15
  let v23 : BitVec 32 := Scalar.select v21 v22 v16
  let c4_i32_278 : BitVec 32 := 4#32
  let v415 : BitVec 32 := Scalar.muli v23 c4_i32_278
  let v416 : BitVec 32 := Scalar.addi c0_i32_279 v415
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_11 : BitVec 32 := 1#32
  let v24 : BitVec 32 := Scalar.addi v5 c1_i32_11
  let c2_i32_12 : BitVec 32 := 2#32
  let c0_i32_13 : BitVec 32 := 0#32
  let v25 : BitVec 1 := Scalar.cmpi .eq c2_i32_12 c0_i32_13
  let c1_i32_14 : BitVec 32 := 1#32
  let v26 : BitVec 32 := Scalar.select v25 c1_i32_14 c2_i32_12
  let v27 : BitVec 32 := Scalar.remsi v24 v26
  let c0_i32_16 : BitVec 32 := 0#32
  let v29 : BitVec 1 := Scalar.cmpi .slt v27 c0_i32_16
  let c0_i32_17 : BitVec 32 := 0#32
  let v30 : BitVec 1 := Scalar.cmpi .slt v26 c0_i32_17
  let v31 : BitVec 1 := Scalar.xori v29 v30
  let c0_i32_15 : BitVec 32 := 0#32
  let v28 : BitVec 1 := Scalar.cmpi .ne v27 c0_i32_15
  let v32 : BitVec 1 := Scalar.andi v31 v28
  let v33 : BitVec 32 := Scalar.addi v27 v26
  let v34 : BitVec 32 := Scalar.select v32 v33 v27
  let c2_i32_280 : BitVec 32 := 2#32
  let v417 : BitVec 32 := Scalar.muli v34 c2_i32_280
  let v418 : BitVec 32 := Scalar.addi v416 v417
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_18 : BitVec 32 := 1#32
  let v35 : BitVec 32 := Scalar.addi v8 c1_i32_18
  let c2_i32_19 : BitVec 32 := 2#32
  let c0_i32_20 : BitVec 32 := 0#32
  let v36 : BitVec 1 := Scalar.cmpi .eq c2_i32_19 c0_i32_20
  let c1_i32_21 : BitVec 32 := 1#32
  let v37 : BitVec 32 := Scalar.select v36 c1_i32_21 c2_i32_19
  let v38 : BitVec 32 := Scalar.remsi v35 v37
  let c0_i32_23 : BitVec 32 := 0#32
  let v40 : BitVec 1 := Scalar.cmpi .slt v38 c0_i32_23
  let c0_i32_24 : BitVec 32 := 0#32
  let v41 : BitVec 1 := Scalar.cmpi .slt v37 c0_i32_24
  let v42 : BitVec 1 := Scalar.xori v40 v41
  let c0_i32_22 : BitVec 32 := 0#32
  let v39 : BitVec 1 := Scalar.cmpi .ne v38 c0_i32_22
  let v43 : BitVec 1 := Scalar.andi v42 v39
  let v44 : BitVec 32 := Scalar.addi v38 v37
  let v45 : BitVec 32 := Scalar.select v43 v44 v38
  let c1_i32_281 : BitVec 32 := 1#32
  let v419 : BitVec 32 := Scalar.muli v45 c1_i32_281
  let v420 : BitVec 32 := Scalar.addi v418 v419
  v420.toNat
def k0_dev9 (d0 : Dev nD) : Nat :=
  let c0_i32_287 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_25 : BitVec 32 := 0#32
  let v46 : BitVec 32 := Scalar.addi v2 c0_i32_25
  let c2_i32_26 : BitVec 32 := 2#32
  let c0_i32_27 : BitVec 32 := 0#32
  let v47 : BitVec 1 := Scalar.cmpi .eq c2_i32_26 c0_i32_27
  let c1_i32_28 : BitVec 32 := 1#32
  let v48 : BitVec 32 := Scalar.select v47 c1_i32_28 c2_i32_26
  let v49 : BitVec 32 := Scalar.remsi v46 v48
  let c0_i32_30 : BitVec 32 := 0#32
  let v51 : BitVec 1 := Scalar.cmpi .slt v49 c0_i32_30
  let c0_i32_31 : BitVec 32 := 0#32
  let v52 : BitVec 1 := Scalar.cmpi .slt v48 c0_i32_31
  let v53 : BitVec 1 := Scalar.xori v51 v52
  let c0_i32_29 : BitVec 32 := 0#32
  let v50 : BitVec 1 := Scalar.cmpi .ne v49 c0_i32_29
  let v54 : BitVec 1 := Scalar.andi v53 v50
  let v55 : BitVec 32 := Scalar.addi v49 v48
  let v56 : BitVec 32 := Scalar.select v54 v55 v49
  let c4_i32_286 : BitVec 32 := 4#32
  let v428 : BitVec 32 := Scalar.muli v56 c4_i32_286
  let v429 : BitVec 32 := Scalar.addi c0_i32_287 v428
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_32 : BitVec 32 := 1#32
  let v57 : BitVec 32 := Scalar.addi v5 c1_i32_32
  let c2_i32_33 : BitVec 32 := 2#32
  let c0_i32_34 : BitVec 32 := 0#32
  let v58 : BitVec 1 := Scalar.cmpi .eq c2_i32_33 c0_i32_34
  let c1_i32_35 : BitVec 32 := 1#32
  let v59 : BitVec 32 := Scalar.select v58 c1_i32_35 c2_i32_33
  let v60 : BitVec 32 := Scalar.remsi v57 v59
  let c0_i32_37 : BitVec 32 := 0#32
  let v62 : BitVec 1 := Scalar.cmpi .slt v60 c0_i32_37
  let c0_i32_38 : BitVec 32 := 0#32
  let v63 : BitVec 1 := Scalar.cmpi .slt v59 c0_i32_38
  let v64 : BitVec 1 := Scalar.xori v62 v63
  let c0_i32_36 : BitVec 32 := 0#32
  let v61 : BitVec 1 := Scalar.cmpi .ne v60 c0_i32_36
  let v65 : BitVec 1 := Scalar.andi v64 v61
  let v66 : BitVec 32 := Scalar.addi v60 v59
  let v67 : BitVec 32 := Scalar.select v65 v66 v60
  let c2_i32_288 : BitVec 32 := 2#32
  let v430 : BitVec 32 := Scalar.muli v67 c2_i32_288
  let v431 : BitVec 32 := Scalar.addi v429 v430
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_39 : BitVec 32 := 1#32
  let v68 : BitVec 32 := Scalar.addi v8 c1_i32_39
  let c2_i32_40 : BitVec 32 := 2#32
  let c0_i32_41 : BitVec 32 := 0#32
  let v69 : BitVec 1 := Scalar.cmpi .eq c2_i32_40 c0_i32_41
  let c1_i32_42 : BitVec 32 := 1#32
  let v70 : BitVec 32 := Scalar.select v69 c1_i32_42 c2_i32_40
  let v71 : BitVec 32 := Scalar.remsi v68 v70
  let c0_i32_44 : BitVec 32 := 0#32
  let v73 : BitVec 1 := Scalar.cmpi .slt v71 c0_i32_44
  let c0_i32_45 : BitVec 32 := 0#32
  let v74 : BitVec 1 := Scalar.cmpi .slt v70 c0_i32_45
  let v75 : BitVec 1 := Scalar.xori v73 v74
  let c0_i32_43 : BitVec 32 := 0#32
  let v72 : BitVec 1 := Scalar.cmpi .ne v71 c0_i32_43
  let v76 : BitVec 1 := Scalar.andi v75 v72
  let v77 : BitVec 32 := Scalar.addi v71 v70
  let v78 : BitVec 32 := Scalar.select v76 v77 v71
  let c1_i32_289 : BitVec 32 := 1#32
  let v432 : BitVec 32 := Scalar.muli v78 c1_i32_289
  let v433 : BitVec 32 := Scalar.addi v431 v432
  v433.toNat
def k0_dev10 (d0 : Dev nD) : Nat :=
  let c0_i32_295 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_46 : BitVec 32 := 1#32
  let v79 : BitVec 32 := Scalar.addi v2 c1_i32_46
  let c2_i32_47 : BitVec 32 := 2#32
  let c0_i32_48 : BitVec 32 := 0#32
  let v80 : BitVec 1 := Scalar.cmpi .eq c2_i32_47 c0_i32_48
  let c1_i32_49 : BitVec 32 := 1#32
  let v81 : BitVec 32 := Scalar.select v80 c1_i32_49 c2_i32_47
  let v82 : BitVec 32 := Scalar.remsi v79 v81
  let c0_i32_51 : BitVec 32 := 0#32
  let v84 : BitVec 1 := Scalar.cmpi .slt v82 c0_i32_51
  let c0_i32_52 : BitVec 32 := 0#32
  let v85 : BitVec 1 := Scalar.cmpi .slt v81 c0_i32_52
  let v86 : BitVec 1 := Scalar.xori v84 v85
  let c0_i32_50 : BitVec 32 := 0#32
  let v83 : BitVec 1 := Scalar.cmpi .ne v82 c0_i32_50
  let v87 : BitVec 1 := Scalar.andi v86 v83
  let v88 : BitVec 32 := Scalar.addi v82 v81
  let v89 : BitVec 32 := Scalar.select v87 v88 v82
  let c4_i32_294 : BitVec 32 := 4#32
  let v441 : BitVec 32 := Scalar.muli v89 c4_i32_294
  let v442 : BitVec 32 := Scalar.addi c0_i32_295 v441
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_53 : BitVec 32 := 0#32
  let v90 : BitVec 32 := Scalar.addi v5 c0_i32_53
  let c2_i32_54 : BitVec 32 := 2#32
  let c0_i32_55 : BitVec 32 := 0#32
  let v91 : BitVec 1 := Scalar.cmpi .eq c2_i32_54 c0_i32_55
  let c1_i32_56 : BitVec 32 := 1#32
  let v92 : BitVec 32 := Scalar.select v91 c1_i32_56 c2_i32_54
  let v93 : BitVec 32 := Scalar.remsi v90 v92
  let c0_i32_58 : BitVec 32 := 0#32
  let v95 : BitVec 1 := Scalar.cmpi .slt v93 c0_i32_58
  let c0_i32_59 : BitVec 32 := 0#32
  let v96 : BitVec 1 := Scalar.cmpi .slt v92 c0_i32_59
  let v97 : BitVec 1 := Scalar.xori v95 v96
  let c0_i32_57 : BitVec 32 := 0#32
  let v94 : BitVec 1 := Scalar.cmpi .ne v93 c0_i32_57
  let v98 : BitVec 1 := Scalar.andi v97 v94
  let v99 : BitVec 32 := Scalar.addi v93 v92
  let v100 : BitVec 32 := Scalar.select v98 v99 v93
  let c2_i32_296 : BitVec 32 := 2#32
  let v443 : BitVec 32 := Scalar.muli v100 c2_i32_296
  let v444 : BitVec 32 := Scalar.addi v442 v443
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_60 : BitVec 32 := 1#32
  let v101 : BitVec 32 := Scalar.addi v8 c1_i32_60
  let c2_i32_61 : BitVec 32 := 2#32
  let c0_i32_62 : BitVec 32 := 0#32
  let v102 : BitVec 1 := Scalar.cmpi .eq c2_i32_61 c0_i32_62
  let c1_i32_63 : BitVec 32 := 1#32
  let v103 : BitVec 32 := Scalar.select v102 c1_i32_63 c2_i32_61
  let v104 : BitVec 32 := Scalar.remsi v101 v103
  let c0_i32_65 : BitVec 32 := 0#32
  let v106 : BitVec 1 := Scalar.cmpi .slt v104 c0_i32_65
  let c0_i32_66 : BitVec 32 := 0#32
  let v107 : BitVec 1 := Scalar.cmpi .slt v103 c0_i32_66
  let v108 : BitVec 1 := Scalar.xori v106 v107
  let c0_i32_64 : BitVec 32 := 0#32
  let v105 : BitVec 1 := Scalar.cmpi .ne v104 c0_i32_64
  let v109 : BitVec 1 := Scalar.andi v108 v105
  let v110 : BitVec 32 := Scalar.addi v104 v103
  let v111 : BitVec 32 := Scalar.select v109 v110 v104
  let c1_i32_297 : BitVec 32 := 1#32
  let v445 : BitVec 32 := Scalar.muli v111 c1_i32_297
  let v446 : BitVec 32 := Scalar.addi v444 v445
  v446.toNat
def k0_dev11 (d0 : Dev nD) : Nat :=
  let c0_i32_303 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_67 : BitVec 32 := 1#32
  let v112 : BitVec 32 := Scalar.addi v2 c1_i32_67
  let c2_i32_68 : BitVec 32 := 2#32
  let c0_i32_69 : BitVec 32 := 0#32
  let v113 : BitVec 1 := Scalar.cmpi .eq c2_i32_68 c0_i32_69
  let c1_i32_70 : BitVec 32 := 1#32
  let v114 : BitVec 32 := Scalar.select v113 c1_i32_70 c2_i32_68
  let v115 : BitVec 32 := Scalar.remsi v112 v114
  let c0_i32_72 : BitVec 32 := 0#32
  let v117 : BitVec 1 := Scalar.cmpi .slt v115 c0_i32_72
  let c0_i32_73 : BitVec 32 := 0#32
  let v118 : BitVec 1 := Scalar.cmpi .slt v114 c0_i32_73
  let v119 : BitVec 1 := Scalar.xori v117 v118
  let c0_i32_71 : BitVec 32 := 0#32
  let v116 : BitVec 1 := Scalar.cmpi .ne v115 c0_i32_71
  let v120 : BitVec 1 := Scalar.andi v119 v116
  let v121 : BitVec 32 := Scalar.addi v115 v114
  let v122 : BitVec 32 := Scalar.select v120 v121 v115
  let c4_i32_302 : BitVec 32 := 4#32
  let v454 : BitVec 32 := Scalar.muli v122 c4_i32_302
  let v455 : BitVec 32 := Scalar.addi c0_i32_303 v454
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_74 : BitVec 32 := 1#32
  let v123 : BitVec 32 := Scalar.addi v5 c1_i32_74
  let c2_i32_75 : BitVec 32 := 2#32
  let c0_i32_76 : BitVec 32 := 0#32
  let v124 : BitVec 1 := Scalar.cmpi .eq c2_i32_75 c0_i32_76
  let c1_i32_77 : BitVec 32 := 1#32
  let v125 : BitVec 32 := Scalar.select v124 c1_i32_77 c2_i32_75
  let v126 : BitVec 32 := Scalar.remsi v123 v125
  let c0_i32_79 : BitVec 32 := 0#32
  let v128 : BitVec 1 := Scalar.cmpi .slt v126 c0_i32_79
  let c0_i32_80 : BitVec 32 := 0#32
  let v129 : BitVec 1 := Scalar.cmpi .slt v125 c0_i32_80
  let v130 : BitVec 1 := Scalar.xori v128 v129
  let c0_i32_78 : BitVec 32 := 0#32
  let v127 : BitVec 1 := Scalar.cmpi .ne v126 c0_i32_78
  let v131 : BitVec 1 := Scalar.andi v130 v127
  let v132 : BitVec 32 := Scalar.addi v126 v125
  let v133 : BitVec 32 := Scalar.select v131 v132 v126
  let c2_i32_304 : BitVec 32 := 2#32
  let v456 : BitVec 32 := Scalar.muli v133 c2_i32_304
  let v457 : BitVec 32 := Scalar.addi v455 v456
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_81 : BitVec 32 := 0#32
  let v134 : BitVec 32 := Scalar.addi v8 c0_i32_81
  let c2_i32_82 : BitVec 32 := 2#32
  let c0_i32_83 : BitVec 32 := 0#32
  let v135 : BitVec 1 := Scalar.cmpi .eq c2_i32_82 c0_i32_83
  let c1_i32_84 : BitVec 32 := 1#32
  let v136 : BitVec 32 := Scalar.select v135 c1_i32_84 c2_i32_82
  let v137 : BitVec 32 := Scalar.remsi v134 v136
  let c0_i32_86 : BitVec 32 := 0#32
  let v139 : BitVec 1 := Scalar.cmpi .slt v137 c0_i32_86
  let c0_i32_87 : BitVec 32 := 0#32
  let v140 : BitVec 1 := Scalar.cmpi .slt v136 c0_i32_87
  let v141 : BitVec 1 := Scalar.xori v139 v140
  let c0_i32_85 : BitVec 32 := 0#32
  let v138 : BitVec 1 := Scalar.cmpi .ne v137 c0_i32_85
  let v142 : BitVec 1 := Scalar.andi v141 v138
  let v143 : BitVec 32 := Scalar.addi v137 v136
  let v144 : BitVec 32 := Scalar.select v142 v143 v137
  let c1_i32_305 : BitVec 32 := 1#32
  let v458 : BitVec 32 := Scalar.muli v144 c1_i32_305
  let v459 : BitVec 32 := Scalar.addi v457 v458
  v459.toNat
def k0_dev12 (d0 : Dev nD) : Nat :=
  let c0_i32_311 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_88 : BitVec 32 := 0#32
  let v145 : BitVec 32 := Scalar.addi v2 c0_i32_88
  let c2_i32_89 : BitVec 32 := 2#32
  let c0_i32_90 : BitVec 32 := 0#32
  let v146 : BitVec 1 := Scalar.cmpi .eq c2_i32_89 c0_i32_90
  let c1_i32_91 : BitVec 32 := 1#32
  let v147 : BitVec 32 := Scalar.select v146 c1_i32_91 c2_i32_89
  let v148 : BitVec 32 := Scalar.remsi v145 v147
  let c0_i32_93 : BitVec 32 := 0#32
  let v150 : BitVec 1 := Scalar.cmpi .slt v148 c0_i32_93
  let c0_i32_94 : BitVec 32 := 0#32
  let v151 : BitVec 1 := Scalar.cmpi .slt v147 c0_i32_94
  let v152 : BitVec 1 := Scalar.xori v150 v151
  let c0_i32_92 : BitVec 32 := 0#32
  let v149 : BitVec 1 := Scalar.cmpi .ne v148 c0_i32_92
  let v153 : BitVec 1 := Scalar.andi v152 v149
  let v154 : BitVec 32 := Scalar.addi v148 v147
  let v155 : BitVec 32 := Scalar.select v153 v154 v148
  let c4_i32_310 : BitVec 32 := 4#32
  let v467 : BitVec 32 := Scalar.muli v155 c4_i32_310
  let v468 : BitVec 32 := Scalar.addi c0_i32_311 v467
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_95 : BitVec 32 := 0#32
  let v156 : BitVec 32 := Scalar.addi v5 c0_i32_95
  let c2_i32_96 : BitVec 32 := 2#32
  let c0_i32_97 : BitVec 32 := 0#32
  let v157 : BitVec 1 := Scalar.cmpi .eq c2_i32_96 c0_i32_97
  let c1_i32_98 : BitVec 32 := 1#32
  let v158 : BitVec 32 := Scalar.select v157 c1_i32_98 c2_i32_96
  let v159 : BitVec 32 := Scalar.remsi v156 v158
  let c0_i32_100 : BitVec 32 := 0#32
  let v161 : BitVec 1 := Scalar.cmpi .slt v159 c0_i32_100
  let c0_i32_101 : BitVec 32 := 0#32
  let v162 : BitVec 1 := Scalar.cmpi .slt v158 c0_i32_101
  let v163 : BitVec 1 := Scalar.xori v161 v162
  let c0_i32_99 : BitVec 32 := 0#32
  let v160 : BitVec 1 := Scalar.cmpi .ne v159 c0_i32_99
  let v164 : BitVec 1 := Scalar.andi v163 v160
  let v165 : BitVec 32 := Scalar.addi v159 v158
  let v166 : BitVec 32 := Scalar.select v164 v165 v159
  let c2_i32_312 : BitVec 32 := 2#32
  let v469 : BitVec 32 := Scalar.muli v166 c2_i32_312
  let v470 : BitVec 32 := Scalar.addi v468 v469
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_102 : BitVec 32 := 1#32
  let v167 : BitVec 32 := Scalar.addi v8 c1_i32_102
  let c2_i32_103 : BitVec 32 := 2#32
  let c0_i32_104 : BitVec 32 := 0#32
  let v168 : BitVec 1 := Scalar.cmpi .eq c2_i32_103 c0_i32_104
  let c1_i32_105 : BitVec 32 := 1#32
  let v169 : BitVec 32 := Scalar.select v168 c1_i32_105 c2_i32_103
  let v170 : BitVec 32 := Scalar.remsi v167 v169
  let c0_i32_107 : BitVec 32 := 0#32
  let v172 : BitVec 1 := Scalar.cmpi .slt v170 c0_i32_107
  let c0_i32_108 : BitVec 32 := 0#32
  let v173 : BitVec 1 := Scalar.cmpi .slt v169 c0_i32_108
  let v174 : BitVec 1 := Scalar.xori v172 v173
  let c0_i32_106 : BitVec 32 := 0#32
  let v171 : BitVec 1 := Scalar.cmpi .ne v170 c0_i32_106
  let v175 : BitVec 1 := Scalar.andi v174 v171
  let v176 : BitVec 32 := Scalar.addi v170 v169
  let v177 : BitVec 32 := Scalar.select v175 v176 v170
  let c1_i32_313 : BitVec 32 := 1#32
  let v471 : BitVec 32 := Scalar.muli v177 c1_i32_313
  let v472 : BitVec 32 := Scalar.addi v470 v471
  v472.toNat
def k0_dev13 (d0 : Dev nD) : Nat :=
  let c0_i32_319 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_109 : BitVec 32 := 0#32
  let v178 : BitVec 32 := Scalar.addi v2 c0_i32_109
  let c2_i32_110 : BitVec 32 := 2#32
  let c0_i32_111 : BitVec 32 := 0#32
  let v179 : BitVec 1 := Scalar.cmpi .eq c2_i32_110 c0_i32_111
  let c1_i32_112 : BitVec 32 := 1#32
  let v180 : BitVec 32 := Scalar.select v179 c1_i32_112 c2_i32_110
  let v181 : BitVec 32 := Scalar.remsi v178 v180
  let c0_i32_114 : BitVec 32 := 0#32
  let v183 : BitVec 1 := Scalar.cmpi .slt v181 c0_i32_114
  let c0_i32_115 : BitVec 32 := 0#32
  let v184 : BitVec 1 := Scalar.cmpi .slt v180 c0_i32_115
  let v185 : BitVec 1 := Scalar.xori v183 v184
  let c0_i32_113 : BitVec 32 := 0#32
  let v182 : BitVec 1 := Scalar.cmpi .ne v181 c0_i32_113
  let v186 : BitVec 1 := Scalar.andi v185 v182
  let v187 : BitVec 32 := Scalar.addi v181 v180
  let v188 : BitVec 32 := Scalar.select v186 v187 v181
  let c4_i32_318 : BitVec 32 := 4#32
  let v480 : BitVec 32 := Scalar.muli v188 c4_i32_318
  let v481 : BitVec 32 := Scalar.addi c0_i32_319 v480
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_116 : BitVec 32 := 1#32
  let v189 : BitVec 32 := Scalar.addi v5 c1_i32_116
  let c2_i32_117 : BitVec 32 := 2#32
  let c0_i32_118 : BitVec 32 := 0#32
  let v190 : BitVec 1 := Scalar.cmpi .eq c2_i32_117 c0_i32_118
  let c1_i32_119 : BitVec 32 := 1#32
  let v191 : BitVec 32 := Scalar.select v190 c1_i32_119 c2_i32_117
  let v192 : BitVec 32 := Scalar.remsi v189 v191
  let c0_i32_121 : BitVec 32 := 0#32
  let v194 : BitVec 1 := Scalar.cmpi .slt v192 c0_i32_121
  let c0_i32_122 : BitVec 32 := 0#32
  let v195 : BitVec 1 := Scalar.cmpi .slt v191 c0_i32_122
  let v196 : BitVec 1 := Scalar.xori v194 v195
  let c0_i32_120 : BitVec 32 := 0#32
  let v193 : BitVec 1 := Scalar.cmpi .ne v192 c0_i32_120
  let v197 : BitVec 1 := Scalar.andi v196 v193
  let v198 : BitVec 32 := Scalar.addi v192 v191
  let v199 : BitVec 32 := Scalar.select v197 v198 v192
  let c2_i32_320 : BitVec 32 := 2#32
  let v482 : BitVec 32 := Scalar.muli v199 c2_i32_320
  let v483 : BitVec 32 := Scalar.addi v481 v482
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_123 : BitVec 32 := 0#32
  let v200 : BitVec 32 := Scalar.addi v8 c0_i32_123
  let c2_i32_124 : BitVec 32 := 2#32
  let c0_i32_125 : BitVec 32 := 0#32
  let v201 : BitVec 1 := Scalar.cmpi .eq c2_i32_124 c0_i32_125
  let c1_i32_126 : BitVec 32 := 1#32
  let v202 : BitVec 32 := Scalar.select v201 c1_i32_126 c2_i32_124
  let v203 : BitVec 32 := Scalar.remsi v200 v202
  let c0_i32_128 : BitVec 32 := 0#32
  let v205 : BitVec 1 := Scalar.cmpi .slt v203 c0_i32_128
  let c0_i32_129 : BitVec 32 := 0#32
  let v206 : BitVec 1 := Scalar.cmpi .slt v202 c0_i32_129
  let v207 : BitVec 1 := Scalar.xori v205 v206
  let c0_i32_127 : BitVec 32 := 0#32
  let v204 : BitVec 1 := Scalar.cmpi .ne v203 c0_i32_127
  let v208 : BitVec 1 := Scalar.andi v207 v204
  let v209 : BitVec 32 := Scalar.addi v203 v202
  let v210 : BitVec 32 := Scalar.select v208 v209 v203
  let c1_i32_321 : BitVec 32 := 1#32
  let v484 : BitVec 32 := Scalar.muli v210 c1_i32_321
  let v485 : BitVec 32 := Scalar.addi v483 v484
  v485.toNat
def k0_dev14 (d0 : Dev nD) : Nat :=
  let c0_i32_327 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_130 : BitVec 32 := 1#32
  let v211 : BitVec 32 := Scalar.addi v2 c1_i32_130
  let c2_i32_131 : BitVec 32 := 2#32
  let c0_i32_132 : BitVec 32 := 0#32
  let v212 : BitVec 1 := Scalar.cmpi .eq c2_i32_131 c0_i32_132
  let c1_i32_133 : BitVec 32 := 1#32
  let v213 : BitVec 32 := Scalar.select v212 c1_i32_133 c2_i32_131
  let v214 : BitVec 32 := Scalar.remsi v211 v213
  let c0_i32_135 : BitVec 32 := 0#32
  let v216 : BitVec 1 := Scalar.cmpi .slt v214 c0_i32_135
  let c0_i32_136 : BitVec 32 := 0#32
  let v217 : BitVec 1 := Scalar.cmpi .slt v213 c0_i32_136
  let v218 : BitVec 1 := Scalar.xori v216 v217
  let c0_i32_134 : BitVec 32 := 0#32
  let v215 : BitVec 1 := Scalar.cmpi .ne v214 c0_i32_134
  let v219 : BitVec 1 := Scalar.andi v218 v215
  let v220 : BitVec 32 := Scalar.addi v214 v213
  let v221 : BitVec 32 := Scalar.select v219 v220 v214
  let c4_i32_326 : BitVec 32 := 4#32
  let v493 : BitVec 32 := Scalar.muli v221 c4_i32_326
  let v494 : BitVec 32 := Scalar.addi c0_i32_327 v493
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_137 : BitVec 32 := 0#32
  let v222 : BitVec 32 := Scalar.addi v5 c0_i32_137
  let c2_i32_138 : BitVec 32 := 2#32
  let c0_i32_139 : BitVec 32 := 0#32
  let v223 : BitVec 1 := Scalar.cmpi .eq c2_i32_138 c0_i32_139
  let c1_i32_140 : BitVec 32 := 1#32
  let v224 : BitVec 32 := Scalar.select v223 c1_i32_140 c2_i32_138
  let v225 : BitVec 32 := Scalar.remsi v222 v224
  let c0_i32_142 : BitVec 32 := 0#32
  let v227 : BitVec 1 := Scalar.cmpi .slt v225 c0_i32_142
  let c0_i32_143 : BitVec 32 := 0#32
  let v228 : BitVec 1 := Scalar.cmpi .slt v224 c0_i32_143
  let v229 : BitVec 1 := Scalar.xori v227 v228
  let c0_i32_141 : BitVec 32 := 0#32
  let v226 : BitVec 1 := Scalar.cmpi .ne v225 c0_i32_141
  let v230 : BitVec 1 := Scalar.andi v229 v226
  let v231 : BitVec 32 := Scalar.addi v225 v224
  let v232 : BitVec 32 := Scalar.select v230 v231 v225
  let c2_i32_328 : BitVec 32 := 2#32
  let v495 : BitVec 32 := Scalar.muli v232 c2_i32_328
  let v496 : BitVec 32 := Scalar.addi v494 v495
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_144 : BitVec 32 := 0#32
  let v233 : BitVec 32 := Scalar.addi v8 c0_i32_144
  let c2_i32_145 : BitVec 32 := 2#32
  let c0_i32_146 : BitVec 32 := 0#32
  let v234 : BitVec 1 := Scalar.cmpi .eq c2_i32_145 c0_i32_146
  let c1_i32_147 : BitVec 32 := 1#32
  let v235 : BitVec 32 := Scalar.select v234 c1_i32_147 c2_i32_145
  let v236 : BitVec 32 := Scalar.remsi v233 v235
  let c0_i32_149 : BitVec 32 := 0#32
  let v238 : BitVec 1 := Scalar.cmpi .slt v236 c0_i32_149
  let c0_i32_150 : BitVec 32 := 0#32
  let v239 : BitVec 1 := Scalar.cmpi .slt v235 c0_i32_150
  let v240 : BitVec 1 := Scalar.xori v238 v239
  let c0_i32_148 : BitVec 32 := 0#32
  let v237 : BitVec 1 := Scalar.cmpi .ne v236 c0_i32_148
  let v241 : BitVec 1 := Scalar.andi v240 v237
  let v242 : BitVec 32 := Scalar.addi v236 v235
  let v243 : BitVec 32 := Scalar.select v241 v242 v236
  let c1_i32_329 : BitVec 32 := 1#32
  let v497 : BitVec 32 := Scalar.muli v243 c1_i32_329
  let v498 : BitVec 32 := Scalar.addi v496 v497
  v498.toNat
def k0_off6 (d0 : Dev nD) (c1_i32_130 : BitVec 32) (c0_i32_137 : BitVec 32) (c0_i32_144 : BitVec 32) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v211 : BitVec 32 := Scalar.addi v2 c1_i32_130
  let c2_i32_131 : BitVec 32 := 2#32
  let c0_i32_132 : BitVec 32 := 0#32
  let v212 : BitVec 1 := Scalar.cmpi .eq c2_i32_131 c0_i32_132
  let c1_i32_133 : BitVec 32 := 1#32
  let v213 : BitVec 32 := Scalar.select v212 c1_i32_133 c2_i32_131
  let v214 : BitVec 32 := Scalar.remsi v211 v213
  let c0_i32_135 : BitVec 32 := 0#32
  let v216 : BitVec 1 := Scalar.cmpi .slt v214 c0_i32_135
  let c0_i32_136 : BitVec 32 := 0#32
  let v217 : BitVec 1 := Scalar.cmpi .slt v213 c0_i32_136
  let v218 : BitVec 1 := Scalar.xori v216 v217
  let c0_i32_134 : BitVec 32 := 0#32
  let v215 : BitVec 1 := Scalar.cmpi .ne v214 c0_i32_134
  let v219 : BitVec 1 := Scalar.andi v218 v215
  let v220 : BitVec 32 := Scalar.addi v214 v213
  let v221 : BitVec 32 := Scalar.select v219 v220 v214
  let c4_i32_163 : BitVec 32 := 4#32
  let v268 : BitVec 32 := Scalar.muli v221 c4_i32_163
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v222 : BitVec 32 := Scalar.addi v5 c0_i32_137
  let c2_i32_138 : BitVec 32 := 2#32
  let c0_i32_139 : BitVec 32 := 0#32
  let v223 : BitVec 1 := Scalar.cmpi .eq c2_i32_138 c0_i32_139
  let c1_i32_140 : BitVec 32 := 1#32
  let v224 : BitVec 32 := Scalar.select v223 c1_i32_140 c2_i32_138
  let v225 : BitVec 32 := Scalar.remsi v222 v224
  let c0_i32_142 : BitVec 32 := 0#32
  let v227 : BitVec 1 := Scalar.cmpi .slt v225 c0_i32_142
  let c0_i32_143 : BitVec 32 := 0#32
  let v228 : BitVec 1 := Scalar.cmpi .slt v224 c0_i32_143
  let v229 : BitVec 1 := Scalar.xori v227 v228
  let c0_i32_141 : BitVec 32 := 0#32
  let v226 : BitVec 1 := Scalar.cmpi .ne v225 c0_i32_141
  let v230 : BitVec 1 := Scalar.andi v229 v226
  let v231 : BitVec 32 := Scalar.addi v225 v224
  let v232 : BitVec 32 := Scalar.select v230 v231 v225
  let c2_i32_164 : BitVec 32 := 2#32
  let v269 : BitVec 32 := Scalar.muli v232 c2_i32_164
  let v270 : BitVec 32 := Scalar.addi v268 v269
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v233 : BitVec 32 := Scalar.addi v8 c0_i32_144
  let c2_i32_145 : BitVec 32 := 2#32
  let c0_i32_146 : BitVec 32 := 0#32
  let v234 : BitVec 1 := Scalar.cmpi .eq c2_i32_145 c0_i32_146
  let c1_i32_147 : BitVec 32 := 1#32
  let v235 : BitVec 32 := Scalar.select v234 c1_i32_147 c2_i32_145
  let v236 : BitVec 32 := Scalar.remsi v233 v235
  let c0_i32_149 : BitVec 32 := 0#32
  let v238 : BitVec 1 := Scalar.cmpi .slt v236 c0_i32_149
  let c0_i32_150 : BitVec 32 := 0#32
  let v239 : BitVec 1 := Scalar.cmpi .slt v235 c0_i32_150
  let v240 : BitVec 1 := Scalar.xori v238 v239
  let c0_i32_148 : BitVec 32 := 0#32
  let v237 : BitVec 1 := Scalar.cmpi .ne v236 c0_i32_148
  let v241 : BitVec 1 := Scalar.andi v240 v237
  let v242 : BitVec 32 := Scalar.addi v236 v235
  let v243 : BitVec 32 := Scalar.select v241 v242 v236
  let v271 : BitVec 32 := Scalar.addi v270 v243
  let c0_i32_338 : BitVec 32 := 0#32
  let c0_i32_339 : BitVec 32 := 0#32
  ![v271.toNat, 0, 0]
def k0_off6_at (r : Fin 7) : BitVec 32 × BitVec 32 × BitVec 32 :=
  if r.val < 3 then
    if r.val < 1 then
      (1#32, 0#32, 0#32)
    else
      if r.val < 2 then
        (0#32, 1#32, 0#32)
      else
        (0#32, 0#32, 1#32)
  else
    if r.val < 5 then
      if r.val < 4 then
        (1#32, 1#32, 0#32)
      else
        (1#32, 0#32, 1#32)
    else
      if r.val < 6 then
        (0#32, 1#32, 1#32)
      else
        (1#32, 1#32, 1#32)
def k0_off7 (d0 : Dev nD) (c1_i32_130 : BitVec 32) (c0_i32_137 : BitVec 32) (c0_i32_144 : BitVec 32) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v211 : BitVec 32 := Scalar.addi v2 c1_i32_130
  let c2_i32_131 : BitVec 32 := 2#32
  let c0_i32_132 : BitVec 32 := 0#32
  let v212 : BitVec 1 := Scalar.cmpi .eq c2_i32_131 c0_i32_132
  let c1_i32_133 : BitVec 32 := 1#32
  let v213 : BitVec 32 := Scalar.select v212 c1_i32_133 c2_i32_131
  let v214 : BitVec 32 := Scalar.remsi v211 v213
  let c0_i32_135 : BitVec 32 := 0#32
  let v216 : BitVec 1 := Scalar.cmpi .slt v214 c0_i32_135
  let c0_i32_136 : BitVec 32 := 0#32
  let v217 : BitVec 1 := Scalar.cmpi .slt v213 c0_i32_136
  let v218 : BitVec 1 := Scalar.xori v216 v217
  let c0_i32_134 : BitVec 32 := 0#32
  let v215 : BitVec 1 := Scalar.cmpi .ne v214 c0_i32_134
  let v219 : BitVec 1 := Scalar.andi v218 v215
  let v220 : BitVec 32 := Scalar.addi v214 v213
  let v221 : BitVec 32 := Scalar.select v219 v220 v214
  let c4_i32_163 : BitVec 32 := 4#32
  let v268 : BitVec 32 := Scalar.muli v221 c4_i32_163
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v222 : BitVec 32 := Scalar.addi v5 c0_i32_137
  let c2_i32_138 : BitVec 32 := 2#32
  let c0_i32_139 : BitVec 32 := 0#32
  let v223 : BitVec 1 := Scalar.cmpi .eq c2_i32_138 c0_i32_139
  let c1_i32_140 : BitVec 32 := 1#32
  let v224 : BitVec 32 := Scalar.select v223 c1_i32_140 c2_i32_138
  let v225 : BitVec 32 := Scalar.remsi v222 v224
  let c0_i32_142 : BitVec 32 := 0#32
  let v227 : BitVec 1 := Scalar.cmpi .slt v225 c0_i32_142
  let c0_i32_143 : BitVec 32 := 0#32
  let v228 : BitVec 1 := Scalar.cmpi .slt v224 c0_i32_143
  let v229 : BitVec 1 := Scalar.xori v227 v228
  let c0_i32_141 : BitVec 32 := 0#32
  let v226 : BitVec 1 := Scalar.cmpi .ne v225 c0_i32_141
  let v230 : BitVec 1 := Scalar.andi v229 v226
  let v231 : BitVec 32 := Scalar.addi v225 v224
  let v232 : BitVec 32 := Scalar.select v230 v231 v225
  let c2_i32_164 : BitVec 32 := 2#32
  let v269 : BitVec 32 := Scalar.muli v232 c2_i32_164
  let v270 : BitVec 32 := Scalar.addi v268 v269
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v233 : BitVec 32 := Scalar.addi v8 c0_i32_144
  let c2_i32_145 : BitVec 32 := 2#32
  let c0_i32_146 : BitVec 32 := 0#32
  let v234 : BitVec 1 := Scalar.cmpi .eq c2_i32_145 c0_i32_146
  let c1_i32_147 : BitVec 32 := 1#32
  let v235 : BitVec 32 := Scalar.select v234 c1_i32_147 c2_i32_145
  let v236 : BitVec 32 := Scalar.remsi v233 v235
  let c0_i32_149 : BitVec 32 := 0#32
  let v238 : BitVec 1 := Scalar.cmpi .slt v236 c0_i32_149
  let c0_i32_150 : BitVec 32 := 0#32
  let v239 : BitVec 1 := Scalar.cmpi .slt v235 c0_i32_150
  let v240 : BitVec 1 := Scalar.xori v238 v239
  let c0_i32_148 : BitVec 32 := 0#32
  let v237 : BitVec 1 := Scalar.cmpi .ne v236 c0_i32_148
  let v241 : BitVec 1 := Scalar.andi v240 v237
  let v242 : BitVec 32 := Scalar.addi v236 v235
  let v243 : BitVec 32 := Scalar.select v241 v242 v236
  let v271 : BitVec 32 := Scalar.addi v270 v243
  let v517 : Index := Scalar.indexCast v271
  let c0_342 : Index := 0#32
  let c0_343 : Index := 0#32
  ![v517.toNat, 0, 0]
def k0_off7_at (r : Fin 7) : BitVec 32 × BitVec 32 × BitVec 32 :=
  if r.val < 3 then
    if r.val < 1 then
      (1#32, 0#32, 0#32)
    else
      if r.val < 2 then
        (0#32, 1#32, 0#32)
      else
        (0#32, 0#32, 1#32)
  else
    if r.val < 5 then
      if r.val < 4 then
        (1#32, 1#32, 0#32)
      else
        (1#32, 0#32, 1#32)
    else
      if r.val < 6 then
        (0#32, 1#32, 1#32)
      else
        (1#32, 1#32, 1#32)
def k0_off8 (d0 : Dev nD) (c1_i32_130 : BitVec 32) (c0_i32_137 : BitVec 32) (c0_i32_144 : BitVec 32) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v211 : BitVec 32 := Scalar.addi v2 c1_i32_130
  let c2_i32_131 : BitVec 32 := 2#32
  let c0_i32_132 : BitVec 32 := 0#32
  let v212 : BitVec 1 := Scalar.cmpi .eq c2_i32_131 c0_i32_132
  let c1_i32_133 : BitVec 32 := 1#32
  let v213 : BitVec 32 := Scalar.select v212 c1_i32_133 c2_i32_131
  let v214 : BitVec 32 := Scalar.remsi v211 v213
  let c0_i32_135 : BitVec 32 := 0#32
  let v216 : BitVec 1 := Scalar.cmpi .slt v214 c0_i32_135
  let c0_i32_136 : BitVec 32 := 0#32
  let v217 : BitVec 1 := Scalar.cmpi .slt v213 c0_i32_136
  let v218 : BitVec 1 := Scalar.xori v216 v217
  let c0_i32_134 : BitVec 32 := 0#32
  let v215 : BitVec 1 := Scalar.cmpi .ne v214 c0_i32_134
  let v219 : BitVec 1 := Scalar.andi v218 v215
  let v220 : BitVec 32 := Scalar.addi v214 v213
  let v221 : BitVec 32 := Scalar.select v219 v220 v214
  let c4_i32_163 : BitVec 32 := 4#32
  let v268 : BitVec 32 := Scalar.muli v221 c4_i32_163
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v222 : BitVec 32 := Scalar.addi v5 c0_i32_137
  let c2_i32_138 : BitVec 32 := 2#32
  let c0_i32_139 : BitVec 32 := 0#32
  let v223 : BitVec 1 := Scalar.cmpi .eq c2_i32_138 c0_i32_139
  let c1_i32_140 : BitVec 32 := 1#32
  let v224 : BitVec 32 := Scalar.select v223 c1_i32_140 c2_i32_138
  let v225 : BitVec 32 := Scalar.remsi v222 v224
  let c0_i32_142 : BitVec 32 := 0#32
  let v227 : BitVec 1 := Scalar.cmpi .slt v225 c0_i32_142
  let c0_i32_143 : BitVec 32 := 0#32
  let v228 : BitVec 1 := Scalar.cmpi .slt v224 c0_i32_143
  let v229 : BitVec 1 := Scalar.xori v227 v228
  let c0_i32_141 : BitVec 32 := 0#32
  let v226 : BitVec 1 := Scalar.cmpi .ne v225 c0_i32_141
  let v230 : BitVec 1 := Scalar.andi v229 v226
  let v231 : BitVec 32 := Scalar.addi v225 v224
  let v232 : BitVec 32 := Scalar.select v230 v231 v225
  let c2_i32_164 : BitVec 32 := 2#32
  let v269 : BitVec 32 := Scalar.muli v232 c2_i32_164
  let v270 : BitVec 32 := Scalar.addi v268 v269
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v233 : BitVec 32 := Scalar.addi v8 c0_i32_144
  let c2_i32_145 : BitVec 32 := 2#32
  let c0_i32_146 : BitVec 32 := 0#32
  let v234 : BitVec 1 := Scalar.cmpi .eq c2_i32_145 c0_i32_146
  let c1_i32_147 : BitVec 32 := 1#32
  let v235 : BitVec 32 := Scalar.select v234 c1_i32_147 c2_i32_145
  let v236 : BitVec 32 := Scalar.remsi v233 v235
  let c0_i32_149 : BitVec 32 := 0#32
  let v238 : BitVec 1 := Scalar.cmpi .slt v236 c0_i32_149
  let c0_i32_150 : BitVec 32 := 0#32
  let v239 : BitVec 1 := Scalar.cmpi .slt v235 c0_i32_150
  let v240 : BitVec 1 := Scalar.xori v238 v239
  let c0_i32_148 : BitVec 32 := 0#32
  let v237 : BitVec 1 := Scalar.cmpi .ne v236 c0_i32_148
  let v241 : BitVec 1 := Scalar.andi v240 v237
  let v242 : BitVec 32 := Scalar.addi v236 v235
  let v243 : BitVec 32 := Scalar.select v241 v242 v236
  let v271 : BitVec 32 := Scalar.addi v270 v243
  let v521 : Index := Scalar.indexCast v271
  let c1_344 : Index := 1#32
  let c0_345 : Index := 0#32
  ![v521.toNat, 1, 0]
def k0_off8_at (r : Fin 7) : BitVec 32 × BitVec 32 × BitVec 32 :=
  if r.val < 3 then
    if r.val < 1 then
      (1#32, 0#32, 0#32)
    else
      if r.val < 2 then
        (0#32, 1#32, 0#32)
      else
        (0#32, 0#32, 1#32)
  else
    if r.val < 5 then
      if r.val < 4 then
        (1#32, 1#32, 0#32)
      else
        (1#32, 0#32, 1#32)
    else
      if r.val < 6 then
        (0#32, 1#32, 1#32)
      else
        (1#32, 1#32, 1#32)
abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x512 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S512x1024 : Shape := ⟨2, ![512, 1024]⟩
abbrev S1024x16384 : Shape := ⟨2, ![1024, 16384]⟩
abbrev S512 : Shape := ⟨1, ![512]⟩
abbrev S512x16384 : Shape := ⟨2, ![512, 16384]⟩
abbrev S_ : Shape := ⟨0, ![]⟩
abbrev S512x1 : Shape := ⟨2, ![512, 1]⟩
abbrev S512x2 : Shape := ⟨2, ![512, 2]⟩

abbrev nBuf : Space → Nat
  | .hbm => 36
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024x16384, .f32⟩
  | .hbm, ⟨2, _⟩ => ⟨S512, .i32⟩
  | .hbm, ⟨3, _⟩ => ⟨S512x16384, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S512x16384, .f32⟩
  | .hbm, ⟨8, _⟩ => ⟨S512x16384, .f32⟩
  | .hbm, ⟨9, _⟩ => ⟨S512x16384, .f32⟩
  | .hbm, ⟨10, _⟩ => ⟨S_, .f32⟩
  | .hbm, ⟨11, _⟩ => ⟨S512, .f32⟩
  | .hbm, ⟨12, _⟩ => ⟨S512x1, .f32⟩
  | .hbm, ⟨13, _⟩ => ⟨S512x1, .f32⟩
  | .hbm, ⟨14, _⟩ => ⟨S512x1, .f32⟩
  | .hbm, ⟨15, _⟩ => ⟨S512, .f32⟩
  | .hbm, ⟨16, _⟩ => ⟨S512, .i32⟩
  | .hbm, ⟨17, _⟩ => ⟨S_, .i32⟩
  | .hbm, ⟨18, _⟩ => ⟨S512, .i32⟩
  | .hbm, ⟨19, _⟩ => ⟨S512, .i1⟩
  | .hbm, ⟨20, _⟩ => ⟨S_, .i32⟩
  | .hbm, ⟨21, _⟩ => ⟨S512, .i32⟩
  | .hbm, ⟨22, _⟩ => ⟨S512, .i32⟩
  | .hbm, ⟨23, _⟩ => ⟨S512, .i32⟩
  | .hbm, ⟨24, _⟩ => ⟨S_, .i32⟩
  | .hbm, ⟨25, _⟩ => ⟨S512, .i32⟩
  | .hbm, ⟨26, _⟩ => ⟨S512, .i1⟩
  | .hbm, ⟨27, _⟩ => ⟨S_, .i32⟩
  | .hbm, ⟨28, _⟩ => ⟨S512, .i32⟩
  | .hbm, ⟨29, _⟩ => ⟨S512, .i32⟩
  | .hbm, ⟨30, _⟩ => ⟨S512, .i32⟩
  | .hbm, ⟨31, _⟩ => ⟨S512x1, .i32⟩
  | .hbm, ⟨32, _⟩ => ⟨S512x1, .i32⟩
  | .hbm, ⟨33, _⟩ => ⟨S512x2, .i32⟩
  | .hbm, ⟨34, _⟩ => ⟨S512, .f32⟩
  | .hbm, ⟨35, _⟩ => ⟨S512, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_v12 : Ref sig .tc := ⟨.hbm, 18, rfl⟩
abbrev main_v13 : Ref sig .tc := ⟨.hbm, 19, rfl⟩
abbrev main_c_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_2 : Ref sig .tc := ⟨.hbm, 24, rfl⟩
abbrev main_v17 : Ref sig .tc := ⟨.hbm, 25, rfl⟩
abbrev main_v18 : Ref sig .tc := ⟨.hbm, 26, rfl⟩
abbrev main_c_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== Proof.Places.lean ====
/- Where things lie: the seven peers of a device, the views that the copies read and write, and the semaphores that the printed
   indices name. -/
module

public import proofs.«01_k».proof.Proof.Gen.KernelIdeal.Skeleton
public import proofs.«01_k».proof.Proof.Gen.KernelIdeal.Frame
public import Idealize.ShloMosaic.Lib.Pointwise.Index

@[expose] public section

set_option maxRecDepth 16384

noncomputable section

namespace Cert.KernelIdeal.Talk

open Cert.KernelIdeal.Gen
open Idealize.ShloMosaic Idealize.ShloMosaic.TcCoe Idealize.SL.Sem

/-! ## Peers -/

/-- The differences of device numbers, in the order in which a device signals and sends. -/
abbrev msk : Fin 7 → ℕ := ![7, 3, 5, 6, 1, 2, 4]

/-- The `k`-th peer of `c`: the device whose number differs from `c`'s by `msk k`, bit by bit. -/
def pr (c : Dev nD) (k : Fin 7) : Dev nD := Fin.ofNat 8 (Nat.xor c.val (msk k))

theorem pr_pr (c : Dev nD) (k : Fin 7) : pr (pr c k) k = c := by revert c k; decide
theorem pr_ne (c : Dev nD) (k : Fin 7) : pr c k ≠ c := by revert c k; decide
theorem pr_inj (c : Dev nD) (k k' : Fin 7) (h : pr c k = pr c k') : k = k' := by revert c k k'; decide
/-- A device's seven peers are the other devices. -/
theorem others_eq (c : Dev nD) :
    (Finset.univ.erase c : Finset (Dev nD)) = [pr c 0, pr c 1, pr c 2, pr c 3, pr c 4, pr c 5, pr c 6].toFinset := by
  revert c; decide
theorem others_nodup (c : Dev nD) : [pr c 0, pr c 1, pr c 2, pr c 3, pr c 4, pr c 5, pr c 6].Nodup := by revert c; decide

theorem dev1_eq (c : Dev nD) : (⟨k0_dev1 c, k0_dev1_lt c⟩ : Dev nD) = pr c 0 := Fin.ext (by revert c; decide +kernel)
theorem dev2_eq (c : Dev nD) : (⟨k0_dev2 c, k0_dev2_lt c⟩ : Dev nD) = pr c 1 := Fin.ext (by revert c; decide +kernel)
theorem dev3_eq (c : Dev nD) : (⟨k0_dev3 c, k0_dev3_lt c⟩ : Dev nD) = pr c 2 := Fin.ext (by revert c; decide +kernel)
theorem dev4_eq (c : Dev nD) : (⟨k0_dev4 c, k0_dev4_lt c⟩ : Dev nD) = pr c 3 := Fin.ext (by revert c; decide +kernel)
theorem dev5_eq (c : Dev nD) : (⟨k0_dev5 c, k0_dev5_lt c⟩ : Dev nD) = pr c 4 := Fin.ext (by revert c; decide +kernel)
theorem dev6_eq (c : Dev nD) : (⟨k0_dev6 c, k0_dev6_lt c⟩ : Dev nD) = pr c 5 := Fin.ext (by revert c; decide +kernel)
theorem dev7_eq (c : Dev nD) : (⟨k0_dev7 c, k0_dev7_lt c⟩ : Dev nD) = pr c 6 := Fin.ext (by revert c; decide +kernel)
theorem dev8_eq (c : Dev nD) : (⟨k0_dev8 c, k0_dev8_lt c⟩ : Dev nD) = pr c 0 := Fin.ext (by revert c; decide +kernel)
theorem dev9_eq (c : Dev nD) : (⟨k0_dev9 c, k0_dev9_lt c⟩ : Dev nD) = pr c 1 := Fin.ext (by revert c; decide +kernel)
theorem dev10_eq (c : Dev nD) : (⟨k0_dev10 c, k0_dev10_lt c⟩ : Dev nD) = pr c 2 := Fin.ext (by revert c; decide +kernel)
theorem dev11_eq (c : Dev nD) : (⟨k0_dev11 c, k0_dev11_lt c⟩ : Dev nD) = pr c 3 := Fin.ext (by revert c; decide +kernel)
theorem dev12_eq (c : Dev nD) : (⟨k0_dev12 c, k0_dev12_lt c⟩ : Dev nD) = pr c 4 := Fin.ext (by revert c; decide +kernel)
theorem dev13_eq (c : Dev nD) : (⟨k0_dev13 c, k0_dev13_lt c⟩ : Dev nD) = pr c 5 := Fin.ext (by revert c; decide +kernel)
theorem dev14_eq (c : Dev nD) : (⟨k0_dev14 c, k0_dev14_lt c⟩ : Dev nD) = pr c 6 := Fin.ext (by revert c; decide +kernel)

/-! ## Semaphores -/

/-- The runtime's barrier semaphore. -/
abbrev barS : Sem sig := barrier0
/-- The semaphore of the local copy `j` (slot `j / 2`, row half `j % 2`). -/
abbrev wS (j : Fin 4) : DmaSem sig := ⟨3 + j.val, show 3 + j.val < 23 by omega⟩
/-- The semaphore that the copy to device `d` credits where it starts. -/
abbrev sendS (d : Dev nD) : DmaSem sig := ⟨7 + d.val, show 7 + d.val < 23 by have : d.val < 8 := d.isLt; omega⟩
/-- The semaphore that the copy from device `d` credits where it lands. -/
abbrev recvS (d : Dev nD) : DmaSem sig := ⟨15 + d.val, show 15 + d.val < 23 by have : d.val < 8 := d.isLt; omega⟩

/-- The printed index of a peer's semaphore is the peer's number. -/
theorem off3_eq (c : Dev nD) (k : Fin 7) : k0_off3 c (k0_off3_at k).1 (k0_off3_at k).2.1 (k0_off3_at k).2.2 = ![(pr c k).val] := by
  revert c k; decide +kernel
theorem off4_eq (c : Dev nD) : k0_off4 c = ![c.val] := by revert c; decide +kernel

/-- One entry of a row of semaphores numbered from `b`: the entry at offset `n` is the semaphore `b + n`. -/
theorem entry_val {N : ℕ} (b : ℕ) (hb : b + S8.numel ≤ N) (n : ℕ) (h : ∀ a, (![n] : Fin 1 → ℕ) a + S1.size a ≤ S8.size a) :
    ((((SemArray.consecutive b S8 hb : SemArray (Fin N) S8).slice (Rect.unit (s := S8) ![n] S1.size h)).squeeze S_ squeezes_S1_S_).sem).val = b + n := by
  have key : ∀ y : S1.Idx, (S8.rowMajor ((Rect.unit (s := S8) ![n] S1.size h).emb y)).val = n := fun y => by
    have hy : (y 0).val < 1 := (y 0).isLt
    rw [Shape.rowMajor_val_one, Rect.emb_apply]
    show n + 1 * (y 0).val = n
    omega
  exact congrArg (b + ·) (key _)

theorem send_at (d : Dev nD) (h : ∀ a, (![d.val] : Fin 1 → ℕ) a + S1.size a ≤ S8.size a) :
    ((cc0_scratch4.slice (Rect.unit (s := S8) ![d.val] S1.size h)).squeeze S_ squeezes_S1_S_).sem = sendS d :=
  Fin.ext (entry_val 7 _ d.val h)
theorem recv_at (d : Dev nD) (h : ∀ a, (![d.val] : Fin 1 → ℕ) a + S1.size a ≤ S8.size a) :
    ((cc0_scratch5.slice (Rect.unit (s := S8) ![d.val] S1.size h)).squeeze S_ squeezes_S1_S_).sem = recvS d :=
  Fin.ext (entry_val 15 _ d.val h)

/-- The semaphore that a printed index of the sending array names. -/
theorem sendSem_of {o : Fin 1 → ℕ} {h : ∀ a, o a + S1.size a ≤ S8.size a} {d : Dev nD} (e : o = ![d.val]) :
    ((cc0_scratch4.slice (Rect.unit (s := S8) o S1.size h)).squeeze S_ squeezes_S1_S_).sem = sendS d := by subst e; exact send_at d h
/-- The semaphore that a printed index of the receiving array names. -/
theorem recvSem_of {o : Fin 1 → ℕ} {h : ∀ a, o a + S1.size a ≤ S8.size a} {d : Dev nD} (e : o = ![d.val]) :
    ((cc0_scratch5.slice (Rect.unit (s := S8) o S1.size h)).squeeze S_ squeezes_S1_S_).sem = recvS d := by subst e; exact recv_at d h

theorem wSem0 : ((cc0_scratch3.slice (Rect.unit (s := S2x2) ![0, 0] S1x1.size inb_S2x2_S1x1_0_0)).squeeze S_ squeezes_S1x1_S_).sem = wS 0 := rfl
theorem wSem1 : ((cc0_scratch3.slice (Rect.unit (s := S2x2) ![0, 1] S1x1.size inb_S2x2_S1x1_0_1)).squeeze S_ squeezes_S1x1_S_).sem = wS 1 := rfl
theorem wSem2 : ((cc0_scratch3.slice (Rect.unit (s := S2x2) ![1, 0] S1x1.size inb_S2x2_S1x1_1_0)).squeeze S_ squeezes_S1x1_S_).sem = wS 2 := rfl
theorem wSem3 : ((cc0_scratch3.slice (Rect.unit (s := S2x2) ![1, 1] S1x1.size inb_S2x2_S1x1_1_1)).squeeze S_ squeezes_S1x1_S_).sem = wS 3 := rfl

/-! ## Views -/

/-- The two rows that a device sends. -/
abbrev sV : Memref sig .tc .vmem S2x512 .f32 :=
  (Memref.whole cc0_scratch1).slice (Rect.unit (s := S8x512) ![0, 0] S2x512.size inb_S8x512_S2x512_0_0) (fun _ => rfl)

/-- Rows 0 and 1 of slot `d` of a receive buffer: where device `d`'s rows land. -/
abbrev rV (d : Dev nD) : Memref sig .tc .vmem S2x512 .f32 :=
  ((Memref.whole cc0_scratch2).slice (Rect.unit (s := S8x8x512) (k0_off5 d) S1x2x512.size (k0_off5_inb d)) (fun _ => rfl)).squeeze S2x512 squeezes_S1x2x512_S2x512

theorem off6_eq (c : Dev nD) (k : Fin 7) : k0_off6 c (k0_off6_at k).1 (k0_off6_at k).2.1 (k0_off6_at k).2.2 = k0_off5 (pr c (6 - k)) := by
  revert c k; decide +kernel

/-- The slot that a wait names, from its printed offset. -/
theorem rV_of_off {o : Fin 3 → ℕ} {h : ∀ a, o a + S1x2x512.size a ≤ S8x8x512.size a} {d : Dev nD} (e : o = k0_off5 d) :
    ((Memref.whole cc0_scratch2).slice (Rect.unit (s := S8x8x512) o S1x2x512.size h) (fun _ => rfl)).squeeze S2x512 squeezes_S1x2x512_S2x512 = rV d := by
  subst e; rfl

/-- The first column of the quarter of its block that device `c` works on. -/
abbrev off (c : Dev nD) : ℕ := 4096 * (c.val % 2) + 2048 * (c.val / 4)
theorem off_lt (c : Dev nD) : off c + 2048 ≤ 8192 := by revert c; decide

theorem wD_inb (j : Fin 4) : ∀ a, (![j.val / 2, 512 * (j.val % 2), 0] : Fin 3 → ℕ) a + S1x512x1024.size a ≤ S2x1024x1024.size a := by
  revert j; decide
theorem wX_inb (c : Dev nD) (j : Fin 4) : ∀ a, (![512 * (j.val % 2), off c + 1024 * (j.val / 2)] : Fin 2 → ℕ) a + S512x1024.size a ≤ S1024x8192.size a := by
  revert c j; decide

/-- Where the local copy `j` lands: rows `512 (j % 2) …` of slot `j / 2`. -/
abbrev wD (j : Fin 4) : Memref sig .tc .vmem S512x1024 .f32 :=
  ((Memref.whole cc0_scratch0).slice (Rect.unit (s := S2x1024x1024) ![j.val / 2, 512 * (j.val % 2), 0] S1x512x1024.size (wD_inb j)) (fun _ => rfl)).squeeze S512x1024 squeezes_S1x512x1024_S512x1024

/-- What the local copy `j` of device `c` reads: the same rows of the device's block, columns from its quarter's chunk `j / 2`. -/
abbrev wX (c : Dev nD) (j : Fin 4) : Memref sig .tc .hbm S512x1024 .f32 :=
  (Memref.whole main_arg1).slice (Rect.unit (s := S1024x8192) ![512 * (j.val % 2), off c + 1024 * (j.val / 2)] S512x1024.size (wX_inb c j)) (fun _ => rfl)

theorem wD_of_off {o : Fin 3 → ℕ} {h : ∀ a, o a + S1x512x1024.size a ≤ S2x1024x1024.size a} {j : Fin 4} (e : o = ![j.val / 2, 512 * (j.val % 2), 0]) :
    ((Memref.whole cc0_scratch0).slice (Rect.unit (s := S2x1024x1024) o S1x512x1024.size h) (fun _ => rfl)).squeeze S512x1024 squeezes_S1x512x1024_S512x1024 = wD j := by
  subst e; rfl
theorem wX_of_off {o : Fin 2 → ℕ} {h : ∀ a, o a + S512x1024.size a ≤ S1024x8192.size a} {c : Dev nD} {j : Fin 4} (e : o = ![512 * (j.val % 2), off c + 1024 * (j.val / 2)]) :
    (Memref.whole main_arg1).slice (Rect.unit (s := S1024x8192) o S512x1024.size h) (fun _ => rfl) = wX c j := by
  subst e; rfl

theorem wX0_off (c : Dev nD) : k0_off1 c 0#32 = ![512 * ((0 : Fin 4).val % 2), off c + 1024 * ((0 : Fin 4).val / 2)] := k0_off1_eq c 0
theorem wX1_off (c : Dev nD) : k0_off2 c 0#32 = ![512 * ((1 : Fin 4).val % 2), off c + 1024 * ((1 : Fin 4).val / 2)] := k0_off2_eq c 0
theorem wX2_off (c : Dev nD) : k0_off1 c 1024#32 = ![512 * ((2 : Fin 4).val % 2), off c + 1024 * ((2 : Fin 4).val / 2)] := k0_off1_eq c 1
theorem wX3_off (c : Dev nD) : k0_off2 c 1024#32 = ![512 * ((3 : Fin 4).val % 2), off c + 1024 * ((3 : Fin 4).val / 2)] := k0_off2_eq c 1

end Cert.KernelIdeal.Talk
-- ==== Proof.Protocol.lean ====
/- The protocol between the devices: for each semaphore, who waits on it, who pays it, how much, and what is handed over. -/
module

public import proofs.«01_k».proof.Proof.Places
public import proofs.«01_k».proof.Proof.Gen.KernelIdeal.Launch
public import proofs.«01_k».proof.Proof.Gen.KernelIdeal.Points
public import Idealize.ShloMosaic.Lib.Pipeline.RegionTalk
public import Idealize.ShloMosaic.Lib.Rounds.Family
public import Idealize.ShloMosaic.Lib.ShareLeaves

@[expose] public section

set_option maxRecDepth 16384

noncomputable section

namespace Cert.KernelIdeal.Talk

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The pipeline library's ghost state, and the protocol's, whose duties are named by devices. -/
abbrev UU : Type := UR sig nD τ × URounds (GSem nD τ sig) (Dev nD)

local notation "𝕄" => MT nD τ sig Unit (Elt F) ℕ UU ℕ

abbrev EP : Emb (UR sig nD τ) (MT nD τ sig Unit (Elt F) ℕ UU ℕ) := embL
abbrev ER : Emb (URounds (GSem nD τ sig) (Dev nD)) (MT nD τ sig Unit (Elt F) ℕ UU ℕ) := embR

variable (m : (ℓ : Loc nD τ sig) → Buf (Elt F) ℓ) (ρ : Dev nD → PrngReg)

abbrev 𝒱₀ : Variants := Variants.none

/-! ## Contents -/

/-- The block of `x` that the body finds staged, and the row of labels. -/
abbrev xstg (c : Dev nD) : cc0_stg0_0.ty.Contents (Elt F) := (win0_0.blk (0 : Fin 1)).view.read (Elt F) (V m c main_arg0)
abbrev lstg (c : Dev nD) : cc0_stg1_0.ty.Contents (Elt F) := (win0_1.blk (0 : Fin 1)).view.read (Elt F) (V m c main_v1)

/-- The weight scratch once its four copies have landed: chunk `i 0` of the quarter. -/
def WB (c : Dev nD) : cc0_scratch0.ty.Contents (Elt F) := fun i =>
  V m c main_arg1 (ix2 (i 1) ⟨off c + 1024 * (i 0).val + (i 2).val, by
    have h := off_lt c
    have h0 : (i 0).val < 2 := (i 0).isLt
    have h2 : (i 2).val < 1024 := (i 2).isLt
    show _ < 8192
    omega⟩)

/-- The device's position along the vocabulary axis of the mesh, as the body computes it. -/
abbrev yW (c : Dev nD) : BitVec 32 := Scalar.remsi (Scalar.divsi (Dev.word c) 2#32) 2#32
/-- The first column of the device's quarter, as the body computes it. -/
abbrev offW (c : Dev nD) : BitVec 32 :=
  Scalar.addi (Scalar.muli (Scalar.remsi (Scalar.divsi (Dev.word c) 1#32) 2#32) 4096#32) (Scalar.muli (Scalar.remsi (Scalar.divsi (Dev.word c) 4#32) 2#32) 2048#32)

/-- What the body loads: `x`, the labels, the two chunks. -/
def xin (c : Dev nD) : FVec F S512x1024 .f32 :=
  k0_pay2 ((Memref.whole cc0_stg0_0).view.readAt (Elt F) (Rect.unit (s := S512x1024) ![0, 0] S512x1024.size inb_S512x1024_S512x1024_0_0).toLoadRect (xstg m c))
def lin (c : Dev nD) : IVec S1x512 32 :=
  k0_pay3 (yW c) ((Memref.whole cc0_stg1_0).view.readAt (Elt F) (Rect.unit (s := S1x512) ![0, 0] S1x512.size inb_S1x512_S1x512_0_0).toLoadRect (lstg m c))
def ch0 (c : Dev nD) : Vec F S1x1024x1024 .f32 :=
  (Memref.whole cc0_scratch0).view.readAt (Elt F) (Rect.unit (s := S2x1024x1024) ![0, 0, 0] S1x1024x1024.size inb_S2x1024x1024_S1x1024x1024_0_0_0).toLoadRect (WB m c)
def ch1 (c : Dev nD) : Vec F S1x1024x1024 .f32 :=
  (Memref.whole cc0_scratch0).view.readAt (Elt F) (Rect.unit (s := S2x1024x1024) ![1, 0, 0] S1x1024x1024.size inb_S2x1024x1024_S1x1024x1024_1_0_0).toLoadRect (WB m c)

/-- The device's own two rows: the sum of exponentials over its quarter, and the label's logit if it lies there. -/
def sOwn (c : Dev nD) : FVec F S1x512 .f32 := k0_pay10 (xin m c) (k0_pay5 (F := F)) (k0_pay7 (xin m c) (ch0 m c)) (ch1 m c)
def lOwn (c : Dev nD) : FVec F S1x512 .f32 :=
  k0_pay11 (xin m c) (k0_pay4 (offW c) (lin m c)) (iota .tc S1024x512 32 [0] iota_S1024x512_d0_w32) (k0_pay5 (F := F))
    (k0_pay8 (offW c) (xin m c) (lin m c) (ch0 m c)) (ch1 m c)
/-- The two rows as they are stored. -/
def sRow (c : Dev nD) : FVec F S1x512 .f32 := k0_pay12 (xin m c) (k0_pay5 (F := F)) (k0_pay7 (xin m c) (ch0 m c)) (ch1 m c)
def lRow (c : Dev nD) : FVec F S1x512 .f32 := k0_pay13 (lOwn m c)

/-- What device `c` sends: its two rows. -/
def SB (c : Dev nD) : cc0_scratch1.ty.Contents (Elt F) := fun i => if (i 0).val = 0 then sRow m c (ix2 0 (i 1)) else lRow m c (ix2 0 (i 1))
/-- A receive buffer in which every device's rows have landed. -/
def RB : cc0_scratch2.ty.Contents (Elt F) := fun i => SB m (i 0) (ix2 (i 1) (i 2))

/-- The two rows of the peer that the `j`-th receive waits for, as the body loads them. -/
def rdS (c : Dev nD) (j : Fin 7) : Vec F S1x1x512 .f32 :=
  (Memref.whole cc0_scratch2).view.readAt (Elt F)
    (Rect.unit (s := S8x8x512) (k0_off7 c (k0_off7_at j).1 (k0_off7_at j).2.1 (k0_off7_at j).2.2) S1x1x512.size (k0_off7_inb c j)).toLoadRect (RB m)
def rdL (c : Dev nD) (j : Fin 7) : Vec F S1x1x512 .f32 :=
  (Memref.whole cc0_scratch2).view.readAt (Elt F)
    (Rect.unit (s := S8x8x512) (k0_off8 c (k0_off8_at j).1 (k0_off8_at j).2.1 (k0_off8_at j).2.2) S1x1x512.size (k0_off8_inb c j)).toLoadRect (RB m)

/-- The two sums over all devices, and the result row. -/
def sAll (c : Dev nD) : FVec F S1x512 .f32 :=
  k0_pay20 (k0_pay18 (k0_pay16 (k0_pay14 (sOwn m c) (rdS m c 0) (rdS m c 1)) (rdS m c 2) (rdS m c 3)) (rdS m c 4) (rdS m c 5)) (rdS m c 6)
def lAll (c : Dev nD) : FVec F S1x512 .f32 :=
  k0_pay21 (k0_pay19 (k0_pay17 (k0_pay15 (lOwn m c) (rdL m c 0) (rdL m c 1)) (rdL m c 2) (rdL m c 3)) (rdL m c 4) (rdL m c 5)) (rdL m c 6)
def outRow (c : Dev nD) : FVec F S1x512 .f32 := k0_pay1 (sAll m c) (lAll m c)

/-! ## Cells -/

abbrev barCell (c : Dev nD) : GSem nD τ sig := ((c : Thread nD τ), .reg barS)
abbrev wCell (c : Dev nD) (j : Fin 4) : GSem nD τ sig := ((c : Thread nD τ), .dma (wS j))
abbrev sendCell (c d : Dev nD) : GSem nD τ sig := ((c : Thread nD τ), .dma (sendS d))
abbrev recvCell (c d : Dev nD) : GSem nD τ sig := ((c : Thread nD τ), .dma (recvS d))

/-- What a local copy and what a copy between devices credit. -/
abbrev NW : ℕ := (wD 0).view.dmaCredit
abbrev NS : ℕ := (rV 0).view.dmaCredit
theorem NW_pos : 0 < NW := View.dmaCredit_pos _ (by decide)
theorem NS_pos : 0 < NS := View.dmaCredit_pos _ (by decide)

/-! ## The schedule -/

/-- Slot `d` of device `c`'s receive buffer, at contents `f`. -/
abbrev rPts (c d : Dev nD) (f : Buf (Elt F) ((rV d).view.loc (c : Thread nD τ))) : sProp 𝕄 :=
  (rV d).view.loc (c : Thread nD τ) ↦[(rV d).view.set]{fullShare} f
/-- The `d`-th of eight read shares of the two rows that device `c` sends. -/
abbrev sPts (c d : Dev nD) : sProp 𝕄 :=
  sV.view.loc (c : Thread nD τ) ↦[sV.view.set]{ShareLeaves.leaf 3 fullShare d} SB m c
/-- Where local copy `j` lands, at contents `f`. -/
abbrev wPts (c : Dev nD) (j : Fin 4) (f : Buf (Elt F) ((wD j).view.loc (c : Thread nD τ))) : sProp 𝕄 :=
  (wD j).view.loc (c : Thread nD τ) ↦[(wD j).view.set]{fullShare} f
/-- What local copy `j` reads, at the `j`-th of four read shares. -/
abbrev xPts (c : Dev nD) (j : Fin 4) : sProp 𝕄 :=
  (wX c j).view.loc (c : Thread nD τ) ↦[(wX c j).view.set]{ShareLeaves.leaf 2 fullShare j} V m c main_arg1

/-- Paid to `c`'s barrier by device `p`: `p`'s slot for `c`, and that `p`'s receive semaphore for `c` is armed. -/
def barPay (c p : Dev nD) : sProp 𝕄 := iprop((∃ f, rPts p c f) ∗ reached ER (recvCell p c) 0)
/-- Paid by a local copy: its landing place, filled, and its source. -/
def wPay (c : Dev nD) (j : Fin 4) : sProp 𝕄 := iprop(wPts c j (WB m c) ∗ xPts m c j)
/-- Paid by the copy to `d` where it starts: the share of the rows that it read. -/
def sendPay (c d : Dev nD) : sProp 𝕄 := sPts m c d
/-- Paid by the copy from `d` where it lands: the slot, holding `d`'s rows. -/
def recvPay (c d : Dev nD) : sProp 𝕄 := rPts c d (RB m)

/-- The duties of round 0 of a device's semaphore. -/
def dutOf (c : Dev nD) : SemLoc sig → Finset (Dev nD)
  | .reg _ => Finset.univ.erase c
  | .dma n => if n.val < 3 then ∅ else if n.val < 7 then {0} else if n.val < 15 then (if n.val = 7 + c.val then ∅ else {0})
      else (if n.val = 15 + c.val then ∅ else {0})
def amtOf : SemLoc sig → ℕ
  | .reg _ => 1
  | .dma n => if n.val < 7 then NW else NS
def payOf (c : Dev nD) : SemLoc sig → Dev nD → sProp 𝕄
  | .reg _, p => barPay c p
  | .dma n, _ => if n.val < 7 then wPay m c (Fin.ofNat 4 (n.val - 3)) else if n.val < 15 then sendPay m c (Fin.ofNat 8 (n.val - 7))
      else recvPay m c (Fin.ofNat 8 (n.val - 15))

def Rd : Rounds.Schedule (GSem nD τ sig) (Dev nD) 𝕄 where
  duties g r := if r = 0 ∧ g.1.2 = .tc then dutOf g.1.1 g.2 else ∅
  unitless _ := False
  amount g _ _ := amtOf g.2
  payload g _ d := payOf m g.1.1 g.2 d
  amount_pos g _ _ _ := by
    obtain ⟨t, s⟩ := g
    cases s with
    | reg _ => exact Nat.one_pos
    | dma n => show 0 < (if n.val < 7 then NW else NS); split; exacts [NW_pos, NS_pos]

set_option synthInstance.maxHeartbeats 400000 in
instance Rd_storable (g : GSem nD τ sig) (r : ℕ) (d : Dev nD) : BI.Storable (upEmb : UEmb _ 𝕄) ((Rd (F := F) m).payload g r d) := by
  show BI.Storable upEmb (payOf m g.1.1 g.2 d)
  unfold payOf barPay wPay sendPay recvPay
  (repeat' split) <;> infer_instance

section Tables

variable (c d p : Dev nD) (j : Fin 4)

theorem duties_later (g : GSem nD τ sig) (r : ℕ) (h : 1 ≤ r) : (Rd (F := F) m).duties g r = ∅ := by
  dsimp only [Rd]; exact if_neg (fun h' => by omega)
theorem duties_bar : (Rd (F := F) m).duties (barCell c) 0 = Finset.univ.erase c := by dsimp only [Rd]; exact if_pos ⟨rfl, rfl⟩
theorem duties_w : (Rd (F := F) m).duties (wCell c j) 0 = {0} := by
  dsimp only [Rd]; rw [if_pos ⟨rfl, rfl⟩]; dsimp only [dutOf]
  have := j.isLt
  rw [if_neg (by omega), if_pos (by omega)]
theorem duties_send (h : d ≠ c) : (Rd (F := F) m).duties (sendCell c d) 0 = {0} := by
  dsimp only [Rd]; rw [if_pos ⟨rfl, rfl⟩]; dsimp only [dutOf]
  have h1 : d.val < 8 := d.isLt
  have h2 : d.val ≠ c.val := fun e => h (Fin.ext e)
  rw [if_neg (by omega), if_neg (by omega), if_pos (by omega), if_neg (by omega)]
theorem duties_recv (h : d ≠ c) : (Rd (F := F) m).duties (recvCell c d) 0 = {0} := by
  dsimp only [Rd]; rw [if_pos ⟨rfl, rfl⟩]; dsimp only [dutOf]
  have h2 : d.val ≠ c.val := fun e => h (Fin.ext e)
  rw [if_neg (by omega), if_neg (by omega), if_neg (by omega), if_neg (by omega)]
theorem duties_send_own : (Rd (F := F) m).duties (sendCell c c) 0 = ∅ := by
  dsimp only [Rd]; rw [if_pos ⟨rfl, rfl⟩]; dsimp only [dutOf]
  have h1 : c.val < 8 := c.isLt
  rw [if_neg (by omega), if_neg (by omega), if_pos (by omega), if_pos rfl]
theorem duties_recv_own : (Rd (F := F) m).duties (recvCell c c) 0 = ∅ := by
  dsimp only [Rd]; rw [if_pos ⟨rfl, rfl⟩]; dsimp only [dutOf]
  rw [if_neg (by omega), if_neg (by omega), if_neg (by omega), if_pos rfl]

theorem amount_bar : (Rd (F := F) m).amount (barCell c) 0 p = 1 := rfl
theorem amount_w : (Rd (F := F) m).amount (wCell c j) 0 p = NW := by
  have := j.isLt
  dsimp only [Rd, amtOf]; rw [if_pos (by omega)]
theorem amount_send : (Rd (F := F) m).amount (sendCell c d) 0 p = NS := by dsimp only [Rd, amtOf]; rw [if_neg (by omega)]
theorem amount_recv : (Rd (F := F) m).amount (recvCell c d) 0 p = NS := by dsimp only [Rd, amtOf]; rw [if_neg (by omega)]

theorem expect_bar : (Rd (F := F) m).expect (barCell c) 0 = 7 := by
  unfold Schedule.expect Schedule.amountOf; rw [duties_bar]
  simp only [amount_bar]
  rw [Finset.sum_const, Finset.card_erase_of_mem (Finset.mem_univ _)]; rfl
theorem expect_w : (Rd (F := F) m).expect (wCell c j) 0 = NW := by
  unfold Schedule.expect Schedule.amountOf; rw [duties_w, Finset.sum_singleton, amount_w]
theorem expect_send (h : d ≠ c) : (Rd (F := F) m).expect (sendCell c d) 0 = NS := by
  unfold Schedule.expect Schedule.amountOf; rw [duties_send m c d h, Finset.sum_singleton, amount_send]
theorem expect_recv (h : d ≠ c) : (Rd (F := F) m).expect (recvCell c d) 0 = NS := by
  unfold Schedule.expect Schedule.amountOf; rw [duties_recv m c d h, Finset.sum_singleton, amount_recv]

theorem payload_bar : (Rd (F := F) m).payload (barCell c) 0 p = barPay c p := rfl
theorem payload_w : (Rd (F := F) m).payload (wCell c j) 0 p = wPay m c j := by
  have := j.isLt
  dsimp only [Rd, payOf]; rw [if_pos (by omega)]
  congr 1; apply Fin.ext; show (3 + j.val - 3) % 4 = j.val; omega
theorem payload_send : (Rd (F := F) m).payload (sendCell c d) 0 p = sendPay m c d := by
  have h1 : d.val < 8 := d.isLt
  dsimp only [Rd, payOf]; rw [if_neg (by omega), if_pos (by omega)]
  congr 1; apply Fin.ext; show (7 + d.val - 7) % 8 = d.val; omega
theorem payload_recv : (Rd (F := F) m).payload (recvCell c d) 0 p = recvPay m c d := by
  have h1 : d.val < 8 := d.isLt
  dsimp only [Rd, payOf]; rw [if_neg (by omega), if_neg (by omega)]
  congr 1; apply Fin.ext; show (15 + d.val - 15) % 8 = d.val; omega

theorem rest_w : bigSep ((Rd (F := F) m).duties (wCell c j) 0 \ ∅) (fun u => (Rd (F := F) m).payload (wCell c j) 0 u) = wPay m c j := by
  rw [Finset.sdiff_empty, duties_w, bigSep_singleton, payload_w]
theorem rest_send (h : d ≠ c) : bigSep ((Rd (F := F) m).duties (sendCell c d) 0 \ ∅) (fun u => (Rd (F := F) m).payload (sendCell c d) 0 u) = sendPay m c d := by
  rw [Finset.sdiff_empty, duties_send m c d h, bigSep_singleton, payload_send]
theorem rest_recv (h : d ≠ c) : bigSep ((Rd (F := F) m).duties (recvCell c d) 0 \ ∅) (fun u => (Rd (F := F) m).payload (recvCell c d) 0 u) = recvPay m c d := by
  rw [Finset.sdiff_empty, duties_recv m c d h, bigSep_singleton, payload_recv]

/-- A family over the other devices, peer by peer. -/
theorem peers_eq (Φ : Dev nD → sProp 𝕄) : bigSep (Finset.univ.erase c) Φ
    = iprop(Φ (pr c 0) ∗ Φ (pr c 1) ∗ Φ (pr c 2) ∗ Φ (pr c 3) ∗ Φ (pr c 4) ∗ Φ (pr c 5) ∗ Φ (pr c 6)) :=
  bigSep_eq_bigSepL_of_eq [pr c 0, pr c 1, pr c 2, pr c 3, pr c 4, pr c 5, pr c 6] (others_eq c) (others_nodup c) Φ

theorem rest_bar : bigSep ((Rd (F := F) m).duties (barCell c) 0 \ ∅) (fun u => (Rd (F := F) m).payload (barCell c) 0 u)
    = iprop(barPay c (pr c 0) ∗ barPay c (pr c 1) ∗ barPay c (pr c 2) ∗ barPay c (pr c 3) ∗ barPay c (pr c 4) ∗ barPay c (pr c 5) ∗ barPay c (pr c 6)) := by
  rw [Finset.sdiff_empty, duties_bar, peers_eq]; rfl

end Tables

/-! ## Levels and what a device owes -/

def L (g : GSem nD τ sig) : Finset Unit := if g.1.2 = .tc then {()} else ∅
/-- Barrier semaphores at 1, receive semaphores at 2, the rest at 0. -/
def lv (g : GSem nD τ sig) (_ : Unit) : ℕ :=
  match g.2 with
  | .reg _ => 1
  | .dma n => if n.val < 15 then 0 else 2

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := rfl
theorem lv_w (c : Dev nD) (j : Fin 4) (u : Unit) : lv (wCell c j) u = 0 := by
  have := j.isLt
  dsimp only [lv]; rw [if_pos (by omega)]
theorem lv_recv (c d : Dev nD) (u : Unit) : lv (recvCell c d) u = 2 := by dsimp only [lv]; rw [if_neg (by omega)]

/-- What device `c` owes its peer `k`: the credit of the copy it will send there; the barrier unit. -/
abbrev rT (c : Dev nD) (k : Fin 7) : CellTallies nD τ sig Unit := tallyAt (recvCell (pr c k) c) () NS
abbrev bT (c : Dev nD) (k : Fin 7) : CellTallies nD τ sig Unit := tallyAt (barCell (pr c k)) () 1
/-- Owed from the last signal to the first copy: a copy to every peer. -/
def owedR (c : Dev nD) : CellTallies nD τ sig Unit :=
  0 + rT c 6 + rT c 5 + rT c 4 + rT c 3 + rT c 2 + rT c 1 + rT c 0
/-- Owed at the start: also a barrier unit to every peer. -/
def O₀ (c : Dev nD) : CellTallies nD τ sig Unit :=
  owedR c + bT c 6 + bT c 5 + bT c 4 + bT c 3 + bT c 2 + bT c 1 + bT c 0

theorem tally_pos {g₀ g : GSem nD τ sig} {u : Unit} {n : ℕ} (h : 0 < (tallyAt g₀ () n : CellTallies nD τ sig Unit) g u) : g = g₀ := by
  rw [tallyAt_apply] at h
  by_cases e : g = g₀ ∧ u = ()
  · exact e.1
  · rw [if_neg e] at h; exact absurd h (Nat.lt_irrefl 0)

theorem add_pos_cases {A B : CellTallies nD τ sig Unit} {g : GSem nD τ sig} {u : Unit} (h : 0 < (A + B) g u) : 0 < A g u ∨ 0 < B g u := by
  rw [Pi.add_apply, Finsupp.add_apply] at h
  exact Nat.add_pos_iff_pos_or_pos.mp h

theorem owedR_pos {c : Dev nD} {g : GSem nD τ sig} {u : Unit} (h : 0 < owedR c g u) : ∃ k, g = recvCell (pr c k) c := by
  unfold owedR at h
  rcases add_pos_cases h with h | h
  · rcases add_pos_cases h with h | h
    · rcases add_pos_cases h with h | h
      · rcases add_pos_cases h with h | h
        · rcases add_pos_cases h with h | h
          · rcases add_pos_cases h with h | h
            · rcases add_pos_cases h with h | h
              · exact absurd h (Nat.lt_irrefl 0)
              · exact ⟨6, tally_pos h⟩
            · exact ⟨5, tally_pos h⟩
          · exact ⟨4, tally_pos h⟩
        · exact ⟨3, tally_pos h⟩
      · exact ⟨2, tally_pos h⟩
    · exact ⟨1, tally_pos h⟩
  · exact ⟨0, tally_pos h⟩

theorem O₀_pos {c : Dev nD} {g : GSem nD τ sig} {u : Unit} (h : 0 < O₀ c g u) : (∃ k, g = recvCell (pr c k) c) ∨ ∃ k, g = barCell (pr c k) := by
  unfold O₀ at h
  rcases add_pos_cases h with h | h
  · rcases add_pos_cases h with h | h
    · rcases add_pos_cases h with h | h
      · rcases add_pos_cases h with h | h
        · rcases add_pos_cases h with h | h
          · rcases add_pos_cases h with h | h
            · rcases add_pos_cases h with h | h
              · exact .inl (owedR_pos h)
              · exact .inr ⟨6, tally_pos h⟩
            · exact .inr ⟨5, tally_pos h⟩
          · exact .inr ⟨4, tally_pos h⟩
        · exact .inr ⟨3, tally_pos h⟩
      · exact .inr ⟨2, tally_pos h⟩
    · exact .inr ⟨1, tally_pos h⟩
  · exact .inr ⟨0, tally_pos h⟩

/-- A device that owes copies only may wait on its barrier and on its local copies. -/
theorem mayWait_low (c : Dev nD) (sm : SemLoc sig) (h : lv ((c : Thread nD τ), sm) () ≤ 1) :
    (levAts L lv : sProp 𝕄) ⊢ MayWait (c : Thread nD τ) sm () (owedR c) :=
  MayOwe.of_cut (L := L) (lev := lv) 1 (fun p hp => by rw [Finset.mem_singleton.mp hp, L_tc]; exact Finset.mem_singleton_self _)
    (fun g u hg => by obtain ⟨k, rfl⟩ := owedR_pos hg; rw [L_tc]; exact Finset.mem_singleton_self _)
    (fun p hp => by rw [Finset.mem_singleton.mp hp]; exact h)
    (fun g u hg => by obtain ⟨k, rfl⟩ := owedR_pos hg; rw [lv_recv]; decide)

end Cert.KernelIdeal.Talk
-- ==== Proof.Landing.lean ====
/- What the views cover and what a write through one leaves: the landing of a local copy, of a copy between devices, and of the
   two stores; which elements the loads read. -/
module

public import proofs.«01_k».proof.Proof.Protocol
public import Idealize.ShloMosaic.Lib.ValueLayout
public import Idealize.ShloMosaic.Lib.Pipeline.ValueKit.Geometry
public import Idealize.ShloMosaic.Lib.Pointwise.IndexBridge

@[expose] public section

set_option maxRecDepth 16384

noncomputable section

namespace Cert.KernelIdeal.Talk

open Cert.KernelIdeal.Gen
open Idealize.ShloMosaic Idealize.ShloMosaic.TcCoe Idealize.SL.Sem
open Idealize.SL

variable {F : FTy → Type} [FloatOps F]
variable (m : (ℓ : Loc nD τ sig) → Buf (Elt F) ℓ)

/-! ## Printed offsets -/

theorem off5_eq (d : Dev nD) : k0_off5 d = ![d.val, 0, 0] := by revert d; decide +kernel
theorem off7_eq (c : Dev nD) (k : Fin 7) : k0_off7 c (k0_off7_at k).1 (k0_off7_at k).2.1 (k0_off7_at k).2.2 = ![(pr c (6 - k)).val, 0, 0] := by
  revert c k; decide +kernel
theorem off8_eq (c : Dev nD) (k : Fin 7) : k0_off8 c (k0_off8_at k).1 (k0_off8_at k).2.1 (k0_off8_at k).2.2 = ![(pr c (6 - k)).val, 1, 0] := by
  revert c k; decide +kernel

/-! ## Membership -/

theorem mem_wD (j : Fin 4) (i : S2x1024x1024.Idx) :
    i ∈ (wD j).view.set ↔ (i 0).val = j.val / 2 ∧ 512 * (j.val % 2) ≤ (i 1).val ∧ (i 1).val < 512 * (j.val % 2) + 512 := by
  have e : (wD j).view.set = (Rect.unit (s := S2x1024x1024) ![j.val / 2, 512 * (j.val % 2), 0] S1x512x1024.size (wD_inb j)).set :=
    (View.set_reshape _ _).trans (View.set_slice_whole _ _)
  rw [e, Rect.mem_set_unit]
  have h2 : (i 2).val < 1024 := (i 2).isLt
  constructor
  · intro h
    have a := h 0; have b := h 1
    change j.val / 2 ≤ (i 0).val ∧ (i 0).val < j.val / 2 + 1 at a
    change 512 * (j.val % 2) ≤ (i 1).val ∧ (i 1).val < 512 * (j.val % 2) + 512 at b
    exact ⟨by omega, b.1, b.2⟩
  · rintro ⟨a, b, d⟩ x
    fin_cases x
    · show j.val / 2 ≤ (i 0).val ∧ (i 0).val < j.val / 2 + 1
      omega
    · show 512 * (j.val % 2) ≤ (i 1).val ∧ (i 1).val < 512 * (j.val % 2) + 512
      omega
    · show 0 ≤ (i 2).val ∧ (i 2).val < 0 + 1024
      omega

theorem mem_rV (d : Dev nD) (i : S8x8x512.Idx) : i ∈ (rV d).view.set ↔ (i 0).val = d.val ∧ (i 1).val < 2 := by
  have e : (rV d).view.set = (Rect.unit (s := S8x8x512) (k0_off5 d) S1x2x512.size (k0_off5_inb d)).set :=
    (View.set_reshape _ _).trans (View.set_slice_whole _ _)
  rw [e, Rect.mem_set_unit, off5_eq]
  have h2 : (i 2).val < 512 := (i 2).isLt
  constructor
  · intro h
    have a := h 0; have b := h 1
    change d.val ≤ (i 0).val ∧ (i 0).val < d.val + 1 at a
    change 0 ≤ (i 1).val ∧ (i 1).val < 0 + 2 at b
    exact ⟨by omega, by omega⟩
  · rintro ⟨a, b⟩ x
    fin_cases x
    · show d.val ≤ (i 0).val ∧ (i 0).val < d.val + 1
      omega
    · show 0 ≤ (i 1).val ∧ (i 1).val < 0 + 2
      omega
    · show 0 ≤ (i 2).val ∧ (i 2).val < 0 + 512
      omega

theorem mem_sV (i : S8x512.Idx) : i ∈ sV.view.set ↔ (i 0).val < 2 := by
  show i ∈ ((View.whole cc0_scratch1).slice (Rect.unit (s := S8x512) ![0, 0] S2x512.size inb_S8x512_S2x512_0_0)).set ↔ _
  rw [View.set_slice_whole, Rect.mem_set_unit]
  have h2 : (i 1).val < 512 := (i 1).isLt
  constructor
  · intro h
    have a := h 0
    change 0 ≤ (i 0).val ∧ (i 0).val < 0 + 2 at a
    omega
  · intro a x
    fin_cases x
    · show 0 ≤ (i 0).val ∧ (i 0).val < 0 + 2
      omega
    · show 0 ≤ (i 1).val ∧ (i 1).val < 0 + 512
      omega

theorem wD_disjoint (j j' : Fin 4) (h : j ≠ j') : Disjoint (wD j).view.set (wD j').view.set := by
  rw [Finset.disjoint_left]
  intro i hi hi'
  have a := (mem_wD j i).mp hi
  have b := (mem_wD j' i).mp hi'
  exact h (Fin.ext (by omega))

theorem rV_disjoint (d d' : Dev nD) (h : d ≠ d') : Disjoint (rV d).view.set (rV d').view.set := by
  rw [Finset.disjoint_left]
  intro i hi hi'
  have a := (mem_rV d i).mp hi
  have b := (mem_rV d' i).mp hi'
  exact h (Fin.ext (a.1.symm.trans b.1))

/-! ## What the loads read -/

theorem mem_setOn_whole {b : Ref sig .tc} {S : Finset b.ty.shape.Idx} {i : b.ty.shape.Idx} : i ∈ (View.whole b).setOn S ↔ i ∈ S :=
  (View.whole b).mem_setOn (x := i)

theorem load0_sub : (Memref.whole cc0_scratch0).view.setOn (Rect.unit (s := S2x1024x1024) ![0, 0, 0] S1x1024x1024.size inb_S2x1024x1024_S1x1024x1024_0_0_0).toLoadRect.set
    ⊆ (wD 0).view.set ∪ (wD 1).view.set := by
  intro i hi
  have h := Rect.mem_set_unit.mp (mem_setOn_whole.mp hi)
  have a := h 0; have b := h 1
  change 0 ≤ (i 0).val ∧ (i 0).val < 0 + 1 at a
  change 0 ≤ (i 1).val ∧ (i 1).val < 0 + 1024 at b
  rw [Finset.mem_union, mem_wD, mem_wD]
  simp only [Fin.isValue, Fin.val_zero, Fin.val_one]
  omega

theorem load1_sub : (Memref.whole cc0_scratch0).view.setOn (Rect.unit (s := S2x1024x1024) ![1, 0, 0] S1x1024x1024.size inb_S2x1024x1024_S1x1024x1024_1_0_0).toLoadRect.set
    ⊆ (wD 2).view.set ∪ (wD 3).view.set := by
  intro i hi
  have h := Rect.mem_set_unit.mp (mem_setOn_whole.mp hi)
  have a := h 0; have b := h 1
  change 1 ≤ (i 0).val ∧ (i 0).val < 1 + 1 at a
  change 0 ≤ (i 1).val ∧ (i 1).val < 0 + 1024 at b
  rw [Finset.mem_union, mem_wD, mem_wD]
  show ((i 0).val = 2 / 2 ∧ 512 * (2 % 2) ≤ (i 1).val ∧ (i 1).val < 512 * (2 % 2) + 512) ∨
    ((i 0).val = 3 / 2 ∧ 512 * (3 % 2) ≤ (i 1).val ∧ (i 1).val < 512 * (3 % 2) + 512)
  omega

/-- A load of one of the first two rows of slot `d` reads within the slot. -/
theorem loadR_sub {o : Fin 3 → ℕ} {h : ∀ a, o a + S1x1x512.size a ≤ S8x8x512.size a} (d : Dev nD) (r : ℕ) (hr : r < 2) (e : o = ![d.val, r, 0]) :
    (Memref.whole cc0_scratch2).view.setOn (Rect.unit (s := S8x8x512) o S1x1x512.size h).toLoadRect.set ⊆ (rV d).view.set := by
  subst e
  intro i hi
  have h := Rect.mem_set_unit.mp (mem_setOn_whole.mp hi)
  have a := h 0; have b := h 1
  change d.val ≤ (i 0).val ∧ (i 0).val < d.val + 1 at a
  change r ≤ (i 1).val ∧ (i 1).val < r + 1 at b
  rw [mem_rV]
  omega

/-! ## Landings -/

theorem wD_emb (j : Fin 4) (a : Fin 512) (b : Fin 1024) :
    (wD j).view.emb (ix2 a b) = (ix3 ⟨j.val / 2, by omega⟩ ⟨512 * (j.val % 2) + a.val, by omega⟩ b : S2x1024x1024.Idx) := by
  show (Rect.unit (s := S2x1024x1024) ![j.val / 2, 512 * (j.val % 2), 0] S1x512x1024.size (wD_inb j)).emb (Shape.reshapeEquiv _ (ix2 a b)) = _
  rw [ix2_eq_valueIdx, ValueIdx.reshapeEquiv_ix2_1ab]
  funext x
  apply Fin.ext
  rw [Rect.emb_apply]
  fin_cases x
  · show j.val / 2 + 1 * 0 = j.val / 2
    omega
  · show 512 * (j.val % 2) + 1 * a.val = 512 * (j.val % 2) + a.val
    omega
  · show 0 + 1 * b.val = b.val
    omega

theorem wX_emb (c : Dev nD) (j : Fin 4) (a : Fin 512) (b : Fin 1024) :
    (wX c j).view.emb (ix2 a b) = (ix2 ⟨512 * (j.val % 2) + a.val, by omega⟩ ⟨off c + 1024 * (j.val / 2) + b.val, by have := off_lt c; omega⟩ : S1024x8192.Idx) := by
  show (Rect.unit (s := S1024x8192) ![512 * (j.val % 2), off c + 1024 * (j.val / 2)] S512x1024.size (wX_inb c j)).emb (ix2 a b) = _
  funext x
  apply Fin.ext
  rw [Rect.emb_apply]
  fin_cases x
  · show 512 * (j.val % 2) + 1 * a.val = 512 * (j.val % 2) + a.val
    omega
  · show off c + 1024 * (j.val / 2) + 1 * b.val = off c + 1024 * (j.val / 2) + b.val
    omega

theorem rV_emb (d : Dev nD) (a : Fin 2) (b : Fin 512) :
    (rV d).view.emb (ix2 a b) = (ix3 d ⟨a.val, by omega⟩ b : S8x8x512.Idx) := by
  show (Rect.unit (s := S8x8x512) (k0_off5 d) S1x2x512.size (k0_off5_inb d)).emb (Shape.reshapeEquiv _ (ix2 a b)) = _
  rw [ix2_eq_valueIdx, ValueIdx.reshapeEquiv_ix2_1ab]
  funext x
  apply Fin.ext
  rw [Rect.emb_apply]
  have e := off5_eq d
  fin_cases x
  · show k0_off5 d 0 + 1 * 0 = d.val
    rw [e]; show d.val + 1 * 0 = d.val; omega
  · show k0_off5 d 1 + 1 * a.val = a.val
    rw [e]; show 0 + 1 * a.val = a.val; omega
  · show k0_off5 d 2 + 1 * b.val = b.val
    rw [e]; show 0 + 1 * b.val = b.val; omega

theorem sV_emb (a : Fin 2) (b : Fin 512) : sV.view.emb (ix2 a b) = (ix2 ⟨a.val, by omega⟩ b : S8x512.Idx) := by
  show (Rect.unit (s := S8x512) ![0, 0] S2x512.size inb_S8x512_S2x512_0_0).emb (ix2 a b) = _
  funext x
  apply Fin.ext
  rw [Rect.emb_apply]
  fin_cases x
  · show 0 + 1 * a.val = a.val
    omega
  · show 0 + 1 * b.val = b.val
    omega

/-- A write of a whole view holds `g` there if the payload at each index is `g` at its place. -/
theorem land {κ : Kind} {sp : Space} {s : Shape} {e : EltTy} (v : View sig κ sp s e) (f g : v.ty.Contents (Elt F)) (w : s.Idx → Elt F e)
    (h : ∀ x, _root_.cast (congrArg (Elt F) v.elt_eq.symm) (w x) = g (v.emb x)) : ∀ i ∈ v.set, v.write (Elt F) f w Finset.univ i = g i := by
  intro i hi
  obtain ⟨x, -, rfl⟩ := Finset.mem_map.mp hi
  rw [View.write_emb_of_mem _ _ (Finset.mem_univ x)]
  exact h x

/-- Local copy `j` leaves its part of the quarter. -/
theorem land_w (c : Dev nD) (j : Fin 4) (f : cc0_scratch0.ty.Contents (Elt F)) :
    ∀ i ∈ (wD j).view.set, (wD j).view.write (Elt F) f ((wX c j).view.read (Elt F) (V m c main_arg1)) Finset.univ i = WB m c i := by
  refine land (wD j).view f (WB m c) _ fun x => ?_
  obtain ⟨a, b, rfl⟩ : ∃ a : Fin 512, ∃ b : Fin 1024, x = ix2 a b := ⟨x 0, x 1, eq_ix2 x⟩
  rw [View.read_apply, wD_emb, wX_emb]
  rfl

/-- The copy from device `c` leaves `c`'s two rows in slot `c`. -/
theorem land_r (c : Dev nD) (f : cc0_scratch2.ty.Contents (Elt F)) :
    ∀ i ∈ (rV c).view.set, (rV c).view.write (Elt F) f (sV.view.read (Elt F) (SB m c)) Finset.univ i = RB m i := by
  refine land (rV c).view f (RB m) _ fun x => ?_
  obtain ⟨a, b, rfl⟩ : ∃ a : Fin 2, ∃ b : Fin 512, x = ix2 a b := ⟨x 0, x 1, eq_ix2 x⟩
  rw [View.read_apply, rV_emb, sV_emb]
  rfl

/-- The rows of the sending buffer that the two stores write. -/
abbrev row0 : Rect S8x512 := Rect.unit (s := S8x512) ![0, 0] S1x512.size inb_S8x512_S1x512_0_0
abbrev row1 : Rect S8x512 := Rect.unit (s := S8x512) ![1, 0] S1x512.size inb_S8x512_S1x512_1_0

/-- The two stores leave the two rows. -/
theorem land_s (c : Dev nD) (f : cc0_scratch1.ty.Contents (Elt F)) : ∀ i ∈ sV.view.set,
    ((Memref.whole cc0_scratch1).access row1).write (Elt F) (((Memref.whole cc0_scratch1).access row0).write (Elt F) f (sRow m c) Finset.univ) (lRow m c) Finset.univ i
      = SB m c i := by
  intro i hi
  have hi2 := (mem_sV i).mp hi
  have e0 : ∀ b : Fin 512, ((Memref.whole cc0_scratch1).access row0).emb (ix2 (0 : Fin 1) b) = (ix2 (0 : Fin 8) b : S8x512.Idx) := fun b => by
    show row0.emb (ix2 0 b) = _
    funext x; apply Fin.ext; rw [Rect.emb_apply]; fin_cases x
    · rfl
    · show 0 + 1 * b.val = b.val; omega
  have e1 : ∀ b : Fin 512, ((Memref.whole cc0_scratch1).access row1).emb (ix2 (0 : Fin 1) b) = (ix2 (1 : Fin 8) b : S8x512.Idx) := fun b => by
    show row1.emb (ix2 0 b) = _
    funext x; apply Fin.ext; rw [Rect.emb_apply]; fin_cases x
    · rfl
    · show 0 + 1 * b.val = b.val; omega
  obtain ⟨a, b, rfl⟩ : ∃ a : Fin 8, ∃ b : Fin 512, i = ix2 a b := ⟨i 0, i 1, eq_ix2 i⟩
  change a.val < 2 at hi2
  by_cases h : a.val = 0
  · obtain rfl : a = 0 := Fin.ext h
    rw [View.write_of_not_mem]
    · rw [← e0, View.write_emb_of_mem _ _ (Finset.mem_univ _), e0]
      rfl
    · intro hm
      have e : ((Memref.whole cc0_scratch1).access row1).set = row1.set := View.set_slice_whole _ _
      have hm' : (ix2 (0 : Fin 8) b : S8x512.Idx) ∈ row1.set := by
        rw [View.setOn_univ] at hm
        exact e ▸ hm
      have := (Rect.mem_set_unit.mp hm' 0).1
      exact absurd (show 1 ≤ 0 from this) (by decide)
  · obtain rfl : a = 1 := Fin.ext (show a.val = 1 by omega)
    rw [← e1, View.write_emb_of_mem _ _ (Finset.mem_univ _), e1]
    rfl

theorem row0_sub : ((Memref.whole cc0_scratch1).access row0).setOn Finset.univ ⊆ Finset.univ := Finset.subset_univ _
theorem row1_sub : ((Memref.whole cc0_scratch1).access row1).setOn Finset.univ ⊆ Finset.univ := Finset.subset_univ _

end Cert.KernelIdeal.Talk
-- ==== Proof.Steps.lean ====
/- One step of the body at a time: what a device gives and gets at each signal, copy and wait. -/
module

public import proofs.«01_k».proof.Proof.Landing

@[expose] public section

set_option maxRecDepth 16384

noncomputable section

namespace Cert.KernelIdeal.Talk

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The kernel's own semaphores and every device's records -/

/-- The kernel's own semaphores: local copies, sends by peer, receives by peer. -/
abbrev KK : Type := Fin 4 ⊕ (Dev nD ⊕ Dev nD)
abbrev osem : KK → SemLoc sig := Sum.elim (fun j => .dma (wS j)) (Sum.elim (fun d => .dma (sendS d)) (fun d => .dma (recvS d)))

theorem osem_inj : Function.Injective osem := by decide
theorem osem_ne_bar : ∀ k : KK, osem k ≠ .reg barS := by decide

def barEmb : Dev nD ↪ GSem nD τ sig := ⟨fun c => barCell c, fun _ _ h => congrArg (fun g : GSem nD τ sig => g.1.1) h⟩
def scEmb : Dev nD × KK ↪ GSem nD τ sig :=
  ⟨fun ck => ((ck.1 : Thread nD τ), osem ck.2), fun _ _ h =>
    Prod.ext (congrArg (fun g : GSem nD τ sig => g.1.1) h) (osem_inj (congrArg Prod.snd h))⟩

abbrev barCells : Finset (GSem nD τ sig) := Finset.univ.map barEmb
abbrev scCells : Finset (GSem nD τ sig) := Finset.univ.map scEmb

/-- What every device may consult: each cell's invariant, and that every barrier is at its first round. -/
def records (κ : GSem nD τ sig → ℕ) : sProp 𝕄 :=
  iprop((bigSep (barCells ∪ scCells) fun g => cellInv ER (Rd m) (κ g) g) ∗ bigSep barCells fun g => reached ER g 0)

instance records_persistent (κ : GSem nD τ sig → ℕ) : BI.Persistent (records m κ) := by unfold records; infer_instance

variable (κ : GSem nD τ sig → ℕ)

theorem rec_inv {g : GSem nD τ sig} (hg : g ∈ (barCells ∪ scCells : Finset (GSem nD τ sig))) : records m κ ⊢ cellInv ER (Rd m) (κ g) g := by
  have h : (bigSep (barCells ∪ scCells) fun g => (cellInv ER (Rd m) (κ g) g : sProp 𝕄)) ⊢ cellInv ER (Rd m) (κ g) g := bigSep_elim hg
  unfold records
  iintro ⟨H, -⟩
  iapply h $$ H
theorem rec_bar (c : Dev nD) : records m κ ⊢ cellInv ER (Rd m) (κ (barCell c)) (barCell c) :=
  rec_inv m κ (Finset.mem_union_left _ (Finset.mem_map_of_mem barEmb (Finset.mem_univ c)))
theorem rec_own (c : Dev nD) (k : KK) : records m κ ⊢ cellInv ER (Rd m) (κ ((c : Thread nD τ), osem k)) ((c : Thread nD τ), osem k) :=
  rec_inv m κ (Finset.mem_union_right _ (Finset.mem_map_of_mem scEmb (Finset.mem_univ (c, k))))
theorem rec_w (c : Dev nD) (j : Fin 4) : records m κ ⊢ cellInv ER (Rd m) (κ (wCell c j)) (wCell c j) := rec_own m κ c (.inl j)
theorem rec_send (c d : Dev nD) : records m κ ⊢ cellInv ER (Rd m) (κ (sendCell c d)) (sendCell c d) := rec_own m κ c (.inr (.inl d))
theorem rec_recv (c d : Dev nD) : records m κ ⊢ cellInv ER (Rd m) (κ (recvCell c d)) (recvCell c d) := rec_own m κ c (.inr (.inr d))
theorem rec_reached (c : Dev nD) : records m κ ⊢ reached ER (barCell c) 0 := by
  have h : (bigSep barCells fun g => (reached ER g 0 : sProp 𝕄)) ⊢ reached ER (barCell c) 0 :=
    bigSep_elim (Finset.mem_map_of_mem barEmb (Finset.mem_univ c))
  unfold records
  iintro ⟨-, H⟩
  iapply h $$ H

/-- A device owes `O`, whatever it has waited for. -/
def ow (c : Dev nD) (O : CellTallies nD τ sig Unit) : sProp 𝕄 := iprop(∃ W, owes (c : Thread nD τ) O W)

/-- What runs a program on device `c`. -/
abbrev run (c : Dev nD) (Q : PUnit.{1} → sProp 𝕄) (P : Prog (TpuEff nD τ sig (Elt F) Λ₀ .tc) PUnit.{1}) : sProp 𝕄 :=
  wp frame (wpE (defs₀ (F := F)) 𝒱₀ (c : Thread nD τ) none) Set.univ P Q

variable (c : Dev nD) (k : PUnit.{1} → Prog (TpuEff nD τ sig (Elt F) Λ₀ .tc) PUnit.{1})

/-- SIGNAL a peer's barrier: hands over the own slot for it. -/
theorem step_signal (Q : PUnit.{1} → sProp 𝕄) (p : Dev nD) (hp : p ≠ c) (O : CellTallies nD τ sig Unit) (f)
    {q : Dev nD} (hq : q = p) {s : Sem sig} (hs : s = barS) {n : ℕ} (hn : n = 1) :
    iprop(records m κ ∗ ow c (O + tallyAt (barCell p) () 1) ∗ dutyTok ER (barCell p) 0 c ∗ rPts c p f ∗ reached ER (recvCell c p) 0)
      ⊢ iprop((ow c O -∗ run c Q (k ⟨⟩)) -∗ run c Q (.op (.semSignal (q : Thread nD τ) s n) k)) := by
  subst hq hs hn
  unfold ow
  iintro ⟨#HR, ⟨%W, HO⟩, Ht, Hs, Hr⟩ Hk
  iapply (Rounds.wp_signal 𝒱₀ ER (Rd m) (c : Thread nD τ) none (dst := (q : Thread nD τ)) (sem := barS) (r := 0) (d := c) (κ := κ (barCell q))
      (by rw [duties_bar]; exact Finset.mem_erase.mpr ⟨hp.symm, Finset.mem_univ _⟩) (amount_bar m q c) () O rfl) $$ [HO Ht Hs Hr]
  · isplitr; · iapply (rec_bar m κ q) $$ HR
    isplitl [HO]; · iexact HO
    isplitl [Ht]; · iexact Ht
    isplitl [Hs Hr]
    · rw [payload_bar]; unfold barPay
      isplitl [Hs]; · iexists f; iexact Hs
      iexact Hr
    · iapply (rec_reached m κ q) $$ HR
  iintro HO
  iapply Hk
  iexists W; iexact HO

/-- START local copy `j`. -/
theorem step_copyW (Q : PUnit.{1} → sProp 𝕄) (j : Fin 4) (f : Buf (Elt F) ((wD j).view.loc (c : Thread nD τ)))
    {src : Memref sig .tc .hbm S512x1024 .f32} (hsrc : src = wX c j) {dst : Memref sig .tc .vmem S512x1024 .f32} (hdst : dst = wD j)
    {s : DmaSem sig} (hs : s = wS j) {h1 h2 h3} :
    iprop(records m κ ∗ xPts m c j ∗ wPts c j f ∗ dutyTok ER (wCell c j) 0 0 ∗ reached ER (wCell c j) 0)
      ⊢ iprop((cred (tallyAt (wCell c j) () NW) -∗ run c Q (k ⟨⟩)) -∗ run c Q (.op (.enqueueDma src (.here dst) (.dma s) h1 h2 h3) k)) := by
  subst hsrc hdst hs
  iintro ⟨#HR, Hx, Hw, Ht, Hr⟩ Hk
  iapply (Rounds.wp_copy_pointsTo 𝒱₀ ER (Rd m) (c : Thread nD τ) none (src := wX c j) (dst := wD j) (sem := .dma (wS j))
      (q := ShareLeaves.leaf 2 fullShare j) (fs := V m c main_arg1) (fd := f) (r := 0) (d := 0) (κ := κ (wCell c j))
      (by rw [duties_w]; exact Finset.mem_singleton_self _) () NW rfl (amount_w m c 0 j)
      (by rw [payload_w]; unfold wPay wPts xPts; rw [pointsTo_congr (land_w m c j f)])) $$ [Hx Hw Ht Hr]
  · isplitr; · iapply (rec_w m κ c j) $$ HR
    isplitl [Hx]; · iexact Hx
    isplitl [Hw]; · iexact Hw
    isplitl [Ht]; · iexact Ht
    iexact Hr
  iexact Hk

/-- WAIT for local copy `j`, still owing the copies to the peers. -/
theorem step_waitW (Q : PUnit.{1} → sProp 𝕄) (j : Fin 4)
    {src : Memref sig .tc .hbm S512x1024 .f32} {dst : Memref sig .tc .vmem S512x1024 .f32} (hdst : dst = wD j)
    {s : DmaSem sig} (hs : s = wS j) {h1 h2} :
    iprop(records m κ ∗ levAts L lv ∗ cred (tallyAt (wCell c j) () NW) ∗ ow c (owedR c) ∗ atPos ER (wCell c j) 0 ∅ 0)
      ⊢ iprop(((ow c (owedR c) ∗ atPos ER (wCell c j) 1 ∅ 0 ∗ wPts c j (WB m c) ∗ xPts m c j) -∗ run c Q (k ⟨⟩))
        -∗ run c Q (.op (.waitDma2 s src dst h1 h2) k)) := by
  subst hdst hs
  unfold ow
  iintro ⟨#HR, #Hlev, Hc, ⟨%W, HO⟩, Hat⟩ Hk
  iapply (Rounds.wp_wait_rest_token 𝒱₀ ER (Rd m) (c : Thread nD τ) none (κ := κ (wCell c j))
      (wpE_waitDma2_eq (src := src) (dst := wD j) 𝒱₀ (c : Thread nD τ) none Set.univ) (Set.mem_univ _) () (O := owedR c) (W := W) (R := 0) (m := 0) (T := ∅)
      ((Nat.zero_add _).trans (expect_w m c j).symm)) $$ [Hc HO Hat]
  · isplitr; · iapply (rec_w m κ c j) $$ HR
    isplitl [Hc]; · iexact Hc
    isplitl [HO]; · iexact HO
    isplitr; · iapply (mayWait_low c (.dma (wS j)) (by rw [lv_w]; decide)); iexact Hlev
    iexact Hat
  iintro ⟨HO, Hat, -, Hpay⟩
  ihave Hp := (Entails.of_eq (rest_w m c j)) $$ Hpay
  unfold wPay
  icases Hp with ⟨Hw, Hx⟩
  iapply Hk
  isplitl [HO]; · iexists _; iexact HO
  isplitl [Hat]; · iexact Hat
  isplitl [Hw] <;> iassumption

/-- WAIT for every peer's signal: each hands over its slot for this device. -/
theorem step_barwait (Q : PUnit.{1} → sProp 𝕄) {s : Sem sig} (hs : s = barS) {n : ℕ} (hn : n = 7) :
    iprop(records m κ ∗ levAts L lv ∗ cred (tallyAt (barCell c) () 7) ∗ ow c (owedR c) ∗ atPos ER (barCell c) 0 ∅ 0)
      ⊢ iprop(((ow c (owedR c) ∗ atPos ER (barCell c) 1 ∅ 0
          ∗ barPay c (pr c 0) ∗ barPay c (pr c 1) ∗ barPay c (pr c 2) ∗ barPay c (pr c 3) ∗ barPay c (pr c 4) ∗ barPay c (pr c 5) ∗ barPay c (pr c 6))
            -∗ run c Q (k ⟨⟩))
        -∗ run c Q (.op (.semWait s n) k)) := by
  subst hs hn
  unfold ow
  iintro ⟨#HR, #Hlev, Hc, ⟨%W, HO⟩, Hat⟩ Hk
  iapply (Rounds.wp_wait_rest_token 𝒱₀ ER (Rd m) (c : Thread nD τ) none (κ := κ (barCell c))
      (wpE_semWait_eq 𝒱₀ (c : Thread nD τ) none Set.univ) (Set.mem_univ _) () (O := owedR c) (W := W) (R := 0) (m := 0) (T := ∅)
      ((Nat.zero_add _).trans (expect_bar m c).symm)) $$ [Hc HO Hat]
  · isplitr; · iapply (rec_bar m κ c) $$ HR
    isplitl [Hc]; · iexact Hc
    isplitl [HO]; · iexact HO
    isplitr; · iapply (mayWait_low c (.reg barS) (by rw [lv_bar])); iexact Hlev
    iexact Hat
  iintro ⟨HO, Hat, -, Hpay⟩
  ihave Hp := (Entails.of_eq (rest_bar m c)) $$ Hpay
  iapply Hk
  isplitl [HO]; · iexists _; iexact HO
  isplitl [Hat]; · iexact Hat
  iexact Hp

/-- SEND the two rows to peer `p`. -/
theorem step_send (Q : PUnit.{1} → sProp 𝕄) (p : Dev nD) (hp : p ≠ c) (O : CellTallies nD τ sig Unit)
    {q : Dev nD} (hq : q = p) {s1 s2 : DmaSem sig} (hs1 : s1 = sendS p) (hs2 : s2 = recvS c) {h0 h1 h2 h3} :
    iprop(records m κ ∗ sPts m c p ∗ barPay c p ∗ ow c (O + tallyAt (recvCell p c) () NS)
        ∗ dutyTok ER (sendCell c p) 0 0 ∗ reached ER (sendCell c p) 0 ∗ dutyTok ER (recvCell p c) 0 0)
      ⊢ iprop(((cred (tallyAt (sendCell c p) () NS) ∗ ow c O) -∗ run c Q (k ⟨⟩))
        -∗ run c Q (.op (.enqueueDma sV (.remote (q : Thread nD τ) (rV c) (.dma s1) h0) (.dma s2) h1 h2 h3) k)) := by
  subst hq hs1 hs2
  unfold ow barPay
  iintro ⟨#HR, Hs, ⟨⟨%f, Hr⟩, Hre⟩, ⟨%W, HO⟩, Ht1, Hr1, Ht2⟩ Hk
  iapply (Rounds.wp_send_pointsTo 𝒱₀ ER (Rd m) (c : Thread nD τ) none (c' := (q : Thread nD τ)) (src := sV) (dst := rV c)
      (sS := .dma (sendS q)) (sem := .dma (recvS c)) (q := ShareLeaves.leaf 3 fullShare q) (fs := SB m c) (fd := f)
      (κ₁ := κ (sendCell c q)) (κ₂ := κ (recvCell q c)) (r₁ := 0) (r₂ := 0) (d₁ := 0) (d₂ := 0)
      (by rw [duties_send m c q hp]; exact Finset.mem_singleton_self _) (by rw [duties_recv m q c hp.symm]; exact Finset.mem_singleton_self _)
      () () NS rfl (amount_send m c q 0) (amount_recv m q c 0) O rfl (W := W)
      (by rw [payload_send]; exact BI.Entails.refl _)
      (by rw [payload_recv]; unfold recvPay rPts; rw [pointsTo_congr (land_r m c f)])) $$ [Hs Hr Hre HO Ht1 Hr1 Ht2]
  · isplitr; · iapply (rec_send m κ c q) $$ HR
    isplitr; · iapply (rec_recv m κ q c) $$ HR
    isplitl [Hs]; · iexact Hs
    isplitl [Hr]; · iexact Hr
    isplitl [HO]; · iexact HO
    isplitl [Ht1]; · iexact Ht1
    isplitl [Hr1]; · iexact Hr1
    isplitl [Ht2]; · iexact Ht2
    iexact Hre
  iintro ⟨Hc, HO⟩
  iapply Hk
  isplitl [Hc]; · iexact Hc
  iexists W; iexact HO

/-- WAIT for the rows of peer `d`. -/
theorem step_recv (Q : PUnit.{1} → sProp 𝕄) (d : Dev nD) (hd : d ≠ c)
    {src : Memref sig .tc .vmem S2x512 .f32} {dst : Memref sig .tc .vmem S2x512 .f32} (hdst : dst = rV d)
    {s : DmaSem sig} (hs : s = recvS d) {h1 h2} :
    iprop(records m κ ∗ cred (tallyAt (recvCell c d) () NS) ∗ ow c 0 ∗ atPos ER (recvCell c d) 0 ∅ 0)
      ⊢ iprop(((ow c 0 ∗ atPos ER (recvCell c d) 1 ∅ 0 ∗ rPts c d (RB m)) -∗ run c Q (k ⟨⟩))
        -∗ run c Q (.op (.waitDma2 s src dst h1 h2) k)) := by
  subst hdst hs
  unfold ow
  iintro ⟨#HR, Hc, ⟨%W, HO⟩, Hat⟩ Hk
  iapply (Rounds.wp_wait_rest_token 𝒱₀ ER (Rd m) (c : Thread nD τ) none (κ := κ (recvCell c d))
      (wpE_waitDma2_eq (src := src) (dst := rV d) 𝒱₀ (c : Thread nD τ) none Set.univ) (Set.mem_univ _) () (O := 0) (W := W) (R := 0) (m := 0) (T := ∅)
      ((Nat.zero_add _).trans (expect_recv m c d hd).symm)) $$ [Hc HO Hat]
  · isplitr; · iapply (rec_recv m κ c d) $$ HR
    isplitl [Hc]; · iexact Hc
    isplitl [HO]; · iexact HO
    isplitr; · rw [MayWait_zero]; iempintro
    iexact Hat
  iintro ⟨HO, Hat, -, Hpay⟩
  ihave Hp := (Entails.of_eq (rest_recv m c d hd)) $$ Hpay
  unfold recvPay
  iapply Hk
  isplitl [HO]; · iexists _; iexact HO
  isplitl [Hat]; · iexact Hat
  iexact Hp

/-- WAIT for the own copy to peer `d` to have been read: its share of the rows comes back. -/
theorem step_waitsend (Q : PUnit.{1} → sProp 𝕄) (d : Dev nD) (hd : d ≠ c)
    {src : Memref sig .tc .vmem S2x512 .f32} {s : DmaSem sig} (hs : s = sendS d) {h1 h2} :
    iprop(records m κ ∗ cred (tallyAt (sendCell c d) () NS) ∗ ow c 0 ∗ atPos ER (sendCell c d) 0 ∅ 0)
      ⊢ iprop(((ow c 0 ∗ atPos ER (sendCell c d) 1 ∅ 0 ∗ sPts m c d) -∗ run c Q (k ⟨⟩))
        -∗ run c Q (.op (.waitDma2 s src sV h1 h2) k)) := by
  subst hs
  unfold ow
  iintro ⟨#HR, Hc, ⟨%W, HO⟩, Hat⟩ Hk
  iapply (Rounds.wp_wait_rest_token 𝒱₀ ER (Rd m) (c : Thread nD τ) none (κ := κ (sendCell c d))
      (wpE_waitDma2_eq (src := src) (dst := sV) 𝒱₀ (c : Thread nD τ) none Set.univ) (Set.mem_univ _) () (O := 0) (W := W) (R := 0) (m := 0) (T := ∅)
      ((Nat.zero_add _).trans (expect_send m c d hd).symm)) $$ [Hc HO Hat]
  · isplitr; · iapply (rec_send m κ c d) $$ HR
    isplitl [Hc]; · iexact Hc
    isplitl [HO]; · iexact HO
    isplitr; · rw [MayWait_zero]; iempintro
    iexact Hat
  iintro ⟨HO, Hat, -, Hpay⟩
  ihave Hp := (Entails.of_eq (rest_send m c d hd)) $$ Hpay
  unfold sendPay
  iapply Hk
  isplitl [HO]; · iexists _; iexact HO
  isplitl [Hat]; · iexact Hat
  iexact Hp

end Cert.KernelIdeal.Talk
-- ==== Proof.Carve.lean ====
/- The buffers cut into the pieces that copies and loads take, and put back together. -/
module

public import proofs.«01_k».proof.Proof.Steps

@[expose] public section

set_option maxRecDepth 16384

noncomputable section

namespace Cert.KernelIdeal.Talk

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

theorem four_eq (Φ : Fin 4 → sProp 𝕄) : bigSep Finset.univ Φ = iprop(Φ 0 ∗ Φ 1 ∗ Φ 2 ∗ Φ 3) :=
  bigSep_univ_eq_bigSepL [(0 : Fin 4), 1, 2, 3] (by decide) (by decide) Φ

/-! ## The weight scratch -/

abbrev loc0 : Loc nD τ sig := (c : Thread nD τ).loc cc0_scratch0
/-- The four landing places together. -/
abbrev wAll : Finset S2x1024x1024.Idx := Finset.univ.biUnion fun j : Fin 4 => (wD j).view.set
def wRest (f : Buf (Elt F) (loc0 c)) : sProp 𝕄 := loc0 c ↦[Finset.univ \ wAll]{fullShare} f

theorem w_pieces (f : Buf (Elt F) (loc0 c)) :
    (loc0 c ↦[wAll]{fullShare} f : sProp 𝕄) = iprop(wPts c 0 f ∗ wPts c 1 f ∗ wPts c 2 f ∗ wPts c 3 f) :=
  (pointsTo_biUnion (ℓ := loc0 c) Finset.univ (fun j : Fin 4 => (wD j).view.set) fun j _ j' _ h => wD_disjoint j j' h).trans
    (four_eq fun j => wPts c j f)

theorem w_cut (f : Buf (Elt F) (loc0 c)) :
    (loc0 c ↦{fullShare} f : sProp 𝕄) ⊢ iprop((wPts c 0 f ∗ wPts c 1 f ∗ wPts c 2 f ∗ wPts c 3 f) ∗ wRest c f) :=
  (pointsTo_split_subset (Finset.subset_univ wAll)).1.trans (by rw [w_pieces]; exact BI.Entails.refl _)

theorem w_join (g f : Buf (Elt F) (loc0 c)) :
    iprop((wPts c 0 g ∗ wPts c 1 g ∗ wPts c 2 g ∗ wPts c 3 g) ∗ wRest c f) ⊢ (iprop(∃ h, loc0 c ↦{fullShare} h) : sProp 𝕄) := by
  rw [← w_pieces]
  unfold wRest
  iintro H
  iexists (wAll.piecewise g f)
  iapply (pointsTo_join_subset (Finset.subset_univ wAll)) $$ H

theorem w_pair (j j' : Fin 4) (h : j ≠ j') (f : Buf (Elt F) (loc0 c)) :
    iprop(wPts c j f ∗ wPts c j' f) ⊢ (loc0 c ↦[(wD j).view.set ∪ (wD j').view.set]{fullShare} f : sProp 𝕄) :=
  (pointsTo_union (wD_disjoint j j' h)).2
theorem w_unpair (j j' : Fin 4) (h : j ≠ j') (f : Buf (Elt F) (loc0 c)) :
    (loc0 c ↦[(wD j).view.set ∪ (wD j').view.set]{fullShare} f : sProp 𝕄) ⊢ iprop(wPts c j f ∗ wPts c j' f) :=
  (pointsTo_union (wD_disjoint j j' h)).1

/-! ## The device's block of `W` -/

abbrev locX : Loc nD τ sig := (c : Thread nD τ).loc main_arg1
def xRest (j : Fin 4) : sProp 𝕄 := locX c ↦[Finset.univ \ (wX c j).view.set]{ShareLeaves.leaf 2 fullShare j} V m c main_arg1

theorem x_leaf (j : Fin 4) :
    (locX c ↦[Finset.univ]{ShareLeaves.leaf 2 fullShare j} V m c main_arg1 : sProp 𝕄) = iprop(xPts m c j ∗ xRest m c j) :=
  BI.Entails.antisymm (pointsTo_split_subset (Finset.subset_univ (wX c j).view.set)).1 (pointsTo_split_subset (Finset.subset_univ (wX c j).view.set)).2

theorem x_cut : (locX c ↦{fullShare} V m c main_arg1 : sProp 𝕄)
    = iprop((xPts m c 0 ∗ xRest m c 0) ∗ (xPts m c 1 ∗ xRest m c 1) ∗ (xPts m c 2 ∗ xRest m c 2) ∗ (xPts m c 3 ∗ xRest m c 3)) :=
  (ShareLeaves.pointsTo_leaves Finset.univ (V m c main_arg1) 2 fullShare).trans
    ((bigSep_congr fun j _ => x_leaf m c j).trans (four_eq fun j => iprop(xPts m c j ∗ xRest m c j)))

/-! ## The receive buffer -/

abbrev loc2 : Loc nD τ sig := (c : Thread nD τ).loc cc0_scratch2
/-- The slots of the peers together. -/
abbrev rAll : Finset S8x8x512.Idx := (Finset.univ.erase c).biUnion fun d : Dev nD => (rV d).view.set
def rRest (f : Buf (Elt F) (loc2 c)) : sProp 𝕄 := loc2 c ↦[Finset.univ \ rAll c]{fullShare} f

theorem r_pieces (f : Buf (Elt F) (loc2 c)) :
    (loc2 c ↦[rAll c]{fullShare} f : sProp 𝕄)
      = iprop(rPts c (pr c 0) f ∗ rPts c (pr c 1) f ∗ rPts c (pr c 2) f ∗ rPts c (pr c 3) f ∗ rPts c (pr c 4) f ∗ rPts c (pr c 5) f ∗ rPts c (pr c 6) f) :=
  (pointsTo_biUnion (ℓ := loc2 c) (Finset.univ.erase c) (fun d : Dev nD => (rV d).view.set) fun d _ d' _ h => rV_disjoint d d' h).trans
    (peers_eq c fun d => rPts c d f)

theorem r_cut (f : Buf (Elt F) (loc2 c)) :
    (loc2 c ↦{fullShare} f : sProp 𝕄)
      ⊢ iprop((rPts c (pr c 0) f ∗ rPts c (pr c 1) f ∗ rPts c (pr c 2) f ∗ rPts c (pr c 3) f ∗ rPts c (pr c 4) f ∗ rPts c (pr c 5) f ∗ rPts c (pr c 6) f) ∗ rRest c f) :=
  (pointsTo_split_subset (Finset.subset_univ (rAll c))).1.trans (by rw [r_pieces]; exact BI.Entails.refl _)

theorem r_join (g f : Buf (Elt F) (loc2 c)) :
    iprop((rPts c (pr c 0) g ∗ rPts c (pr c 1) g ∗ rPts c (pr c 2) g ∗ rPts c (pr c 3) g ∗ rPts c (pr c 4) g ∗ rPts c (pr c 5) g ∗ rPts c (pr c 6) g) ∗ rRest c f)
      ⊢ (iprop(∃ h, loc2 c ↦{fullShare} h) : sProp 𝕄) := by
  rw [← r_pieces]
  unfold rRest
  iintro H
  iexists ((rAll c).piecewise g f)
  iapply (pointsTo_join_subset (Finset.subset_univ (rAll c))) $$ H

/-! ## The sending buffer -/

abbrev loc1 : Loc nD τ sig := (c : Thread nD τ).loc cc0_scratch1
def sRest (f : Buf (Elt F) (loc1 c)) : sProp 𝕄 := loc1 c ↦[Finset.univ \ sV.view.set]{fullShare} f

/-- What the sending buffer holds after the two stores over `f`. -/
abbrev sAfter (f : Buf (Elt F) (loc1 c)) : Buf (Elt F) (loc1 c) :=
  ((Memref.whole cc0_scratch1).access row1).write (Elt F) (((Memref.whole cc0_scratch1).access row0).write (Elt F) f (sRow m c) Finset.univ) (lRow m c) Finset.univ

/-- A family over all devices: the device itself, then its peers. -/
theorem eight_eq (Φ : Dev nD → sProp 𝕄) : bigSep Finset.univ Φ
    = iprop(Φ c ∗ Φ (pr c 0) ∗ Φ (pr c 1) ∗ Φ (pr c 2) ∗ Φ (pr c 3) ∗ Φ (pr c 4) ∗ Φ (pr c 5) ∗ Φ (pr c 6)) :=
  (bigSep_univ_at Φ c).trans (by rw [peers_eq])

theorem s_leaves (I : Finset S8x512.Idx) (f : Buf (Elt F) (loc1 c)) : (loc1 c ↦[I]{fullShare} f : sProp 𝕄)
    = bigSep (Finset.univ : Finset (Fin 8)) fun d => (loc1 c ↦[I]{ShareLeaves.leaf 3 fullShare d} f : sProp 𝕄) :=
  ShareLeaves.pointsTo_leaves (ℓ := loc1 c) I f 3 fullShare

theorem s_pieces : (loc1 c ↦[sV.view.set]{fullShare} SB m c : sProp 𝕄)
    = iprop(sPts m c c ∗ sPts m c (pr c 0) ∗ sPts m c (pr c 1) ∗ sPts m c (pr c 2) ∗ sPts m c (pr c 3) ∗ sPts m c (pr c 4) ∗ sPts m c (pr c 5) ∗ sPts m c (pr c 6)) := by
  have h := eight_eq c fun d => sPts m c d
  exact (s_leaves c _ _).trans h

theorem s_cut (f : Buf (Elt F) (loc1 c)) : (loc1 c ↦{fullShare} sAfter m c f : sProp 𝕄)
    ⊢ iprop((sPts m c c ∗ sPts m c (pr c 0) ∗ sPts m c (pr c 1) ∗ sPts m c (pr c 2) ∗ sPts m c (pr c 3) ∗ sPts m c (pr c 4) ∗ sPts m c (pr c 5) ∗ sPts m c (pr c 6))
        ∗ sRest c (sAfter m c f)) :=
  (pointsTo_split_subset (Finset.subset_univ sV.view.set)).1.trans (by
    rw [pointsTo_congr (land_s m c f), ← s_pieces]; exact BI.Entails.refl _)

theorem s_join (f : Buf (Elt F) (loc1 c)) :
    iprop((sPts m c c ∗ sPts m c (pr c 0) ∗ sPts m c (pr c 1) ∗ sPts m c (pr c 2) ∗ sPts m c (pr c 3) ∗ sPts m c (pr c 4) ∗ sPts m c (pr c 5) ∗ sPts m c (pr c 6))
        ∗ sRest c f) ⊢ (iprop(∃ h, loc1 c ↦{fullShare} h) : sProp 𝕄) := by
  rw [← s_pieces]
  unfold sRest
  iintro H
  iexists (sV.view.set.piecewise (SB m c) f)
  iapply (pointsTo_join_subset (Finset.subset_univ sV.view.set)) $$ H

/-! ## Families over the kernel's own semaphores -/

theorem own_eq (Φ : KK → sProp 𝕄) : bigSep Finset.univ Φ
    = iprop((Φ (.inl 0) ∗ Φ (.inl 1) ∗ Φ (.inl 2) ∗ Φ (.inl 3))
      ∗ (Φ (.inr (.inl c)) ∗ Φ (.inr (.inl (pr c 0))) ∗ Φ (.inr (.inl (pr c 1))) ∗ Φ (.inr (.inl (pr c 2))) ∗ Φ (.inr (.inl (pr c 3)))
          ∗ Φ (.inr (.inl (pr c 4))) ∗ Φ (.inr (.inl (pr c 5))) ∗ Φ (.inr (.inl (pr c 6))))
      ∗ (Φ (.inr (.inr c)) ∗ Φ (.inr (.inr (pr c 0))) ∗ Φ (.inr (.inr (pr c 1))) ∗ Φ (.inr (.inr (pr c 2))) ∗ Φ (.inr (.inr (pr c 3)))
          ∗ Φ (.inr (.inr (pr c 4))) ∗ Φ (.inr (.inr (pr c 5))) ∗ Φ (.inr (.inr (pr c 6))))) := by
  have h1 := BI.bigSep_univ_sum Φ
  have h2 := BI.bigSep_univ_sum fun b => Φ (.inr b)
  have h3 := four_eq fun a => Φ (.inl a)
  have h4 := (bigSep_univ_at (fun d => Φ (.inr (.inl d))) c).trans (by rw [peers_eq])
  have h5 := (bigSep_univ_at (fun d => Φ (.inr (.inr d))) c).trans (by rw [peers_eq])
  rw [h1, h2, h3, h4, h5]
  rfl

/-- The round of each of the kernel's own cells when the body has ended: the device's own two are still at the start. -/
def Rk : KK → ℕ := Sum.elim (fun _ => 1) (Sum.elim (fun d => if d = c then 0 else 1) (fun d => if d = c then 0 else 1))

theorem Rk_w (j : Fin 4) : Rk c (.inl j) = 1 := rfl
theorem Rk_so : Rk c (.inr (.inl c)) = 0 := if_pos rfl
theorem Rk_ro : Rk c (.inr (.inr c)) = 0 := if_pos rfl
theorem Rk_s (k : Fin 7) : Rk c (.inr (.inl (pr c k))) = 1 := if_neg (pr_ne c k)
theorem Rk_r (k : Fin 7) : Rk c (.inr (.inr (pr c k))) = 1 := if_neg (pr_ne c k)

/-- No duty is left on a cell at its final round. -/
theorem Rk_none (k : KK) (r : ℕ) (hr : Rk c k ≤ r) : (Rd (F := F) m).duties ((c : Thread nD τ), osem k) r = ∅ := by
  by_cases h : 1 ≤ r
  · exact duties_later m _ _ h
  · obtain rfl : r = 0 := by omega
    rcases k with j | d | d
    · rw [Rk_w] at hr; omega
    · by_cases e : d = c
      · subst e; exact duties_send_own m d
      · exfalso; have : Rk c (.inr (.inl d)) = 1 := if_neg e
        omega
    · by_cases e : d = c
      · subst e; exact duties_recv_own m d
      · exfalso; have : Rk c (.inr (.inr d)) = 1 := if_neg e
        omega

end Cert.KernelIdeal.Talk
-- ==== Proof.Body.lean ====
/- One device's whole run of the body: what it starts from, what it leaves, and the steps between. -/
module

public import proofs.«01_k».proof.Proof.Carve

@[expose] public section

set_option maxRecDepth 65536

noncomputable section

namespace Cert.KernelIdeal.Talk

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (κ : GSem nD τ sig → ℕ) (c : Dev nD)

abbrev bodyProg : Prog (TpuEff nD τ sig (Elt F) Λ₀ .tc) PUnit.{1} :=
  cc0_body (Memref.whole cc0_stg0_0) (Memref.isWhole_whole _) (Memref.whole main_arg1) (Memref.isWhole_whole _) (Memref.whole cc0_stg1_0) (Memref.isWhole_whole _)
    (Memref.whole cc0_stg2_0) (Memref.isWhole_whole _) (Memref.whole cc0_scratch0) (Memref.isWhole_whole _) (Memref.whole cc0_scratch1) (Memref.isWhole_whole _)
    (Memref.whole cc0_scratch2) (Memref.isWhole_whole _) cc0_scratch3 cc0_scratch4 cc0_scratch5

/-! ## Start and end -/

/-- What a device has of the protocol before it runs the body: its own cells at their first round, one duty towards each peer's
    barrier and each peer's receive cell, its own sends' and local copies' duties, and what others owe it. -/
def talkPre : sProp 𝕄 :=
  iprop(atPos ER (barCell c) 0 ∅ 0
    ∗ (bigSep (Finset.univ : Finset KK) fun k => atPos ER ((c : Thread nD τ), osem k) 0 ∅ 0)
    ∗ (bigSep (Finset.univ : Finset KK) fun k => reached ER ((c : Thread nD τ), osem k) 0)
    ∗ (bigSep (Finset.univ.erase c) fun p => dutyTok ER (barCell p) 0 c)
    ∗ (bigSep (Finset.univ.erase c) fun p => dutyTok ER (recvCell p c) 0 0)
    ∗ (bigSep (Finset.univ.erase c) fun p => dutyTok ER (sendCell c p) 0 0)
    ∗ (bigSep (Finset.univ : Finset (Fin 4)) fun j => dutyTok ER (wCell c j) 0 0)
    ∗ cred (tallyAt (barCell c) () 7)
    ∗ (bigSep (Finset.univ.erase c) fun d => cred (tallyAt (recvCell c d) () NS)))

/-- What it has when the body has run: every semaphore of its own at zero. -/
def talkPost : sProp 𝕄 :=
  iprop(semVal (barCell c) 0 ∗ (bigSep (Finset.univ : Finset KK) fun k => semVal ((c : Thread nD τ), osem k) 0))

def scratch : sProp 𝕄 :=
  iprop((∃ f, loc0 c ↦{fullShare} f) ∗ (∃ f, loc1 c ↦{fullShare} f) ∗ (∃ f, loc2 c ↦{fullShare} f))

def bodyPre : sProp 𝕄 :=
  iprop(records m κ ∗ levAts L lv ∗ talkPre c ∗ ow c (O₀ c) ∗ scratch c ∗ (locX c ↦{fullShare} V m c main_arg1)
    ∗ ((c : Thread nD τ).loc cc0_stg0_0 ↦{fullShare} xstg m c) ∗ ((c : Thread nD τ).loc cc0_stg1_0 ↦{fullShare} lstg m c)
    ∗ (∃ f, (c : Thread nD τ).loc cc0_stg2_0 ↦{fullShare} f))

def bodyPost : sProp 𝕄 :=
  iprop(talkPost c ∗ ow c 0 ∗ scratch c ∗ (locX c ↦{fullShare} V m c main_arg1)
    ∗ ((c : Thread nD τ).loc cc0_stg0_0 ↦{fullShare} xstg m c) ∗ ((c : Thread nD τ).loc cc0_stg1_0 ↦{fullShare} lstg m c)
    ∗ ((c : Thread nD τ).loc cc0_stg2_0 ↦{fullShare} (outRow m c : cc0_stg2_0.ty.Contents (Elt F))))

/-! ## Small steps -/

theorem reach_w (j : Fin 4) : (bigSep (Finset.univ : Finset KK) fun k => (reached ER ((c : Thread nD τ), osem k) 0 : sProp 𝕄)) ⊢ reached ER (wCell c j) 0 :=
  bigSep_elim (Finset.mem_univ (Sum.inl j : KK))
theorem reach_s (d : Dev nD) : (bigSep (Finset.univ : Finset KK) fun k => (reached ER ((c : Thread nD τ), osem k) 0 : sProp 𝕄)) ⊢ reached ER (sendCell c d) 0 :=
  bigSep_elim (Finset.mem_univ (Sum.inr (Sum.inl d) : KK))
theorem reach_v (d : Dev nD) : (bigSep (Finset.univ : Finset KK) fun k => (reached ER ((c : Thread nD τ), osem k) 0 : sProp 𝕄)) ⊢ reached ER (recvCell c d) 0 :=
  bigSep_elim (Finset.mem_univ (Sum.inr (Sum.inr d) : KK))

/-- LOAD, at a named value. -/
theorem step_load (Q : PUnit.{1} → sProp 𝕄) {cs : CoreSpace} {s : Shape} {e : EltTy} {mr : Memref sig .tc cs s e} {r : LoadRect s} {hl : mr.view.LoadsAt r}
    {k : (r.shape.Idx → Elt F e) → Prog (TpuEff nD τ sig (Elt F) Λ₀ .tc) PUnit.{1}} {S : Finset (Idx (mr.view.loc (c : Thread nD τ)))} {q : PosShare TreeShare}
    {f : Buf (Elt F) (mr.view.loc (c : Thread nD τ))} (hS : mr.view.setOn r.set ⊆ S) (v : r.shape.Idx → Elt F e) (hv : mr.view.readAt (Elt F) r f = v) :
    (mr.view.loc (c : Thread nD τ) ↦[S]{q} f)
      ⊢ iprop(((mr.view.loc (c : Thread nD τ) ↦[S]{q} f) -∗ run c Q (k v)) -∗ run c Q (.op (.load mr r hl) k)) := by
  subst hv
  exact wp_load 𝒱₀ (c : Thread nD τ) none Set.univ hS

/-- STORE, of a named value. -/
theorem step_store (Q : PUnit.{1} → sProp 𝕄) {cs : CoreSpace} {s : Shape} {e : EltTy} {mr : Memref sig .tc cs s e} {r : Rect s} {w : r.shape.Idx → Elt F e}
    {hx : (mr.access r).Stores Finset.univ} {hm : (Finset.univ : Finset r.shape.Idx) = Finset.univ ∨ ∀ a, r.stride a = 1}
    {k : PUnit.{1} → Prog (TpuEff nD τ sig (Elt F) Λ₀ .tc) PUnit.{1}} {f : Buf (Elt F) ((mr.access r).loc (c : Thread nD τ))}
    (w' : r.shape.Idx → Elt F e) (hw : w = w') :
    ((mr.access r).loc (c : Thread nD τ) ↦{fullShare} f)
      ⊢ iprop((((mr.access r).loc (c : Thread nD τ) ↦{fullShare} ((mr.access r).write (Elt F) f w' Finset.univ)) -∗ run c Q (k ⟨⟩))
        -∗ run c Q (.op (.store mr r w Finset.univ hx hm) k)) := by
  subst hw
  exact wp_store 𝒱₀ (c : Thread nD τ) none Set.univ (Finset.subset_univ _)

/-- The staged blocks as loaded. -/
def xraw : FVec F S512x1024 .f32 :=
  (Memref.whole cc0_stg0_0).view.readAt (Elt F) (Rect.unit (s := S512x1024) ![0, 0] S512x1024.size inb_S512x1024_S512x1024_0_0).toLoadRect (xstg m c)
def lraw : IVec S1x512 32 :=
  (Memref.whole cc0_stg1_0).view.readAt (Elt F) (Rect.unit (s := S1x512) ![0, 0] S1x512.size inb_S1x512_S1x512_0_0).toLoadRect (lstg m c)

/-- The closing of the device's own cells, all at their final rounds. -/
theorem own_close : iprop(records m κ ∗ bigSep (Finset.univ : Finset KK) fun k => atPos ER ((c : Thread nD τ), osem k) (Rk c k) ∅ 0)
    ⊢ (|={Set.univ}=> bigSep (Finset.univ : Finset KK) fun k => semVal ((c : Thread nD τ), osem k) 0 : sProp 𝕄) :=
  (bigSep_with_persistent (R := records m κ) (Ψ := fun k : KK => iprop(cellInv ER (Rd m) (κ ((c : Thread nD τ), osem k)) ((c : Thread nD τ), osem k)
      ∗ atPos ER ((c : Thread nD τ), osem k) (Rk c k) ∅ 0)) fun k _ => by
    iintro ⟨#HR, H⟩
    isplitr; · iapply (rec_own m κ c k) $$ HR
    iexact H).trans
  (Rounds.cells_close ER (Rd m) Finset.univ (fun k : KK => ((c : Thread nD τ), osem k)) (fun k => κ ((c : Thread nD τ), osem k)) (Es := Set.univ)
    (fun _ _ => Set.mem_univ _) (fun _ _ => id) (Rk c) fun k _ r hr => Rk_none m c k r hr)

theorem bar_close : iprop(records m κ ∗ atPos ER (barCell c) 1 ∅ 0) ⊢ (|={Set.univ}=> semVal (barCell c) 0 : sProp 𝕄) := by
  iintro ⟨#HR, H⟩
  iapply (Rounds.cell_close ER (Rd m) (κ := κ (barCell c)) (Set.mem_univ _) id (duties_later m (barCell c))) $$ [H]
  isplitr; · iapply (rec_bar m κ c) $$ HR
  iexact H

theorem off00 : (![0, 0] : Fin 2 → ℕ) = fun _ => 0 := by decide

/-! ## The run -/

set_option maxHeartbeats 4000000 in
/-- From `bodyPre` the body runs to its end, having each time what the step takes, and leaves `bodyPost`. -/
theorem body_run (Q : PUnit.{1} → sProp 𝕄) : iprop(bodyPre m κ c ∗ (bodyPost m c -∗ Q ⟨⟩)) ⊢ run c Q (bodyProg (F := F)) := by
  unfold bodyProg
  simp only [cc0_body_eq_skeleton, cc0_body_skel, k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, semSignalWord, semWaitWord, Prog.lift, Prog.bind_op, Prog.bind_ret, Prog.pure_eq_ret, wp_deviceId]
  unfold bodyPre talkPre scratch
  iintro ⟨⟨#HR, #Hlev, ⟨Hbar, Hat, #Hre, Htb, Htv, Hts, Htw, Hcb, Hcv⟩, HO, ⟨⟨%f0, H0⟩, ⟨%f1, H1⟩, ⟨%f2, H2⟩⟩, HX, Hx, Hl, ⟨%fo, Ho⟩⟩, Hk⟩
  ihave Hat := (Entails.of_eq (own_eq c fun k => atPos ER ((c : Thread nD τ), osem k) 0 ∅ 0)) $$ Hat
  icases Hat with ⟨HatW, HatS, HatV⟩
  -- The signals: each gives a peer this device's slot for it.
  ihave H2 := (r_cut c f2) $$ H2
  icases H2 with ⟨⟨Hv0, Hv1, Hv2, Hv3, Hv4, Hv5, Hv6⟩, Hvr⟩
  ihave Htb := (Entails.of_eq (peers_eq c fun p => dutyTok ER (barCell p) 0 c)) $$ Htb
  icases Htb with ⟨Htb0, Htb1, Htb2, Htb3, Htb4, Htb5, Htb6⟩
  iapply (step_signal m κ c _ Q (pr c 0) (pr_ne c 0) (owedR c + bT c 6 + bT c 5 + bT c 4 + bT c 3 + bT c 2 + bT c 1) f2 (dev1_eq c) rfl rfl) $$ [HO Htb0 Hv0]
  · isplitr; · iexact HR
    isplitl [HO]; · iexact HO
    isplitl [Htb0]; · iexact Htb0
    isplitl [Hv0]; · iexact Hv0
    iapply (reach_v c (pr c 0)) $$ Hre
  iintro HO
  iapply (step_signal m κ c _ Q (pr c 1) (pr_ne c 1) (owedR c + bT c 6 + bT c 5 + bT c 4 + bT c 3 + bT c 2) f2 (dev2_eq c) rfl rfl) $$ [HO Htb1 Hv1]
  · isplitr; · iexact HR
    isplitl [HO]; · iexact HO
    isplitl [Htb1]; · iexact Htb1
    isplitl [Hv1]; · iexact Hv1
    iapply (reach_v c (pr c 1)) $$ Hre
  iintro HO
  iapply (step_signal m κ c _ Q (pr c 2) (pr_ne c 2) (owedR c + bT c 6 + bT c 5 + bT c 4 + bT c 3) f2 (dev3_eq c) rfl rfl) $$ [HO Htb2 Hv2]
  · isplitr; · iexact HR
    isplitl [HO]; · iexact HO
    isplitl [Htb2]; · iexact Htb2
    isplitl [Hv2]; · iexact Hv2
    iapply (reach_v c (pr c 2)) $$ Hre
  iintro HO
  iapply (step_signal m κ c _ Q (pr c 3) (pr_ne c 3) (owedR c + bT c 6 + bT c 5 + bT c 4) f2 (dev4_eq c) rfl rfl) $$ [HO Htb3 Hv3]
  · isplitr; · iexact HR
    isplitl [HO]; · iexact HO
    isplitl [Htb3]; · iexact Htb3
    isplitl [Hv3]; · iexact Hv3
    iapply (reach_v c (pr c 3)) $$ Hre
  iintro HO
  iapply (step_signal m κ c _ Q (pr c 4) (pr_ne c 4) (owedR c + bT c 6 + bT c 5) f2 (dev5_eq c) rfl rfl) $$ [HO Htb4 Hv4]
  · isplitr; · iexact HR
    isplitl [HO]; · iexact HO
    isplitl [Htb4]; · iexact Htb4
    isplitl [Hv4]; · iexact Hv4
    iapply (reach_v c (pr c 4)) $$ Hre
  iintro HO
  iapply (step_signal m κ c _ Q (pr c 5) (pr_ne c 5) (owedR c + bT c 6) f2 (dev6_eq c) rfl rfl) $$ [HO Htb5 Hv5]
  · isplitr; · iexact HR
    isplitl [HO]; · iexact HO
    isplitl [Htb5]; · iexact Htb5
    isplitl [Hv5]; · iexact Hv5
    iapply (reach_v c (pr c 5)) $$ Hre
  iintro HO
  iapply (step_signal m κ c _ Q (pr c 6) (pr_ne c 6) (owedR c) f2 (dev7_eq c) rfl rfl) $$ [HO Htb6 Hv6]
  · isplitr; · iexact HR
    isplitl [HO]; · iexact HO
    isplitl [Htb6]; · iexact Htb6
    isplitl [Hv6]; · iexact Hv6
    iapply (reach_v c (pr c 6)) $$ Hre
  iintro HO
  -- The local copies start.
  ihave H0 := (w_cut c f0) $$ H0
  icases H0 with ⟨⟨Hw0, Hw1, Hw2, Hw3⟩, Hwr⟩
  ihave HX := (Entails.of_eq (x_cut m c)) $$ HX
  icases HX with ⟨⟨HX0, Xr0⟩, ⟨HX1, Xr1⟩, ⟨HX2, Xr2⟩, HX3, Xr3⟩
  ihave Htw := (Entails.of_eq (four_eq fun j => dutyTok ER (wCell c j) 0 0)) $$ Htw
  icases Htw with ⟨Htw0, Htw1, Htw2, Htw3⟩
  iapply (step_copyW m κ c _ Q 0 f0 (wX_of_off (wX0_off c)) (wD_of_off rfl) wSem0) $$ [HX0 Hw0 Htw0]
  · isplitr; · iexact HR
    isplitl [HX0]; · iexact HX0
    isplitl [Hw0]; · iexact Hw0
    isplitl [Htw0]; · iexact Htw0
    iapply (reach_w c 0) $$ Hre
  iintro Hcw0
  iapply (step_copyW m κ c _ Q 1 f0 (wX_of_off (wX1_off c)) (wD_of_off rfl) wSem1) $$ [HX1 Hw1 Htw1]
  · isplitr; · iexact HR
    isplitl [HX1]; · iexact HX1
    isplitl [Hw1]; · iexact Hw1
    isplitl [Htw1]; · iexact Htw1
    iapply (reach_w c 1) $$ Hre
  iintro Hcw1
  iapply (step_copyW m κ c _ Q 2 f0 (wX_of_off (wX2_off c)) (wD_of_off rfl) wSem2) $$ [HX2 Hw2 Htw2]
  · isplitr; · iexact HR
    isplitl [HX2]; · iexact HX2
    isplitl [Hw2]; · iexact Hw2
    isplitl [Htw2]; · iexact Htw2
    iapply (reach_w c 2) $$ Hre
  iintro Hcw2
  iapply (step_copyW m κ c _ Q 3 f0 (wX_of_off (wX3_off c)) (wD_of_off rfl) wSem3) $$ [HX3 Hw3 Htw3]
  · isplitr; · iexact HR
    isplitl [HX3]; · iexact HX3
    isplitl [Hw3]; · iexact Hw3
    isplitl [Htw3]; · iexact Htw3
    iapply (reach_w c 3) $$ Hre
  iintro Hcw3
  -- The staged blocks, then the chunks as they land.
  iapply (step_load c Q (mr := Memref.whole cc0_stg0_0) (Finset.subset_univ _) (xraw m c) rfl) $$ Hx
  iintro Hx
  iapply (step_load c Q (mr := Memref.whole cc0_stg1_0) (Finset.subset_univ _) (lraw m c) rfl) $$ Hl
  iintro Hl
  icases HatW with ⟨Haw0, Haw1, Haw2, Haw3⟩
  iapply (step_waitW m κ c _ Q 0 (wD_of_off rfl) wSem0) $$ [Hcw0 HO Haw0]
  · isplitr; · iexact HR
    isplitr; · iexact Hlev
    isplitl [Hcw0]; · iexact Hcw0
    isplitl [HO]; · iexact HO
    iexact Haw0
  iintro ⟨HO, Haw0, Hw0, HX0⟩
  iapply (step_waitW m κ c _ Q 1 (wD_of_off rfl) wSem1) $$ [Hcw1 HO Haw1]
  · isplitr; · iexact HR
    isplitr; · iexact Hlev
    isplitl [Hcw1]; · iexact Hcw1
    isplitl [HO]; · iexact HO
    iexact Haw1
  iintro ⟨HO, Haw1, Hw1, HX1⟩
  ihave Hw := (w_pair c 0 1 (by decide) (WB m c)) $$ [Hw0 Hw1]
  · isplitl [Hw0] <;> iassumption
  iapply (step_load c Q (mr := Memref.whole cc0_scratch0) load0_sub (ch0 m c) rfl) $$ Hw
  iintro Hw
  ihave Hw := (w_unpair c 0 1 (by decide) (WB m c)) $$ Hw
  icases Hw with ⟨Hw0, Hw1⟩
  iapply (step_waitW m κ c _ Q 2 (wD_of_off rfl) wSem2) $$ [Hcw2 HO Haw2]
  · isplitr; · iexact HR
    isplitr; · iexact Hlev
    isplitl [Hcw2]; · iexact Hcw2
    isplitl [HO]; · iexact HO
    iexact Haw2
  iintro ⟨HO, Haw2, Hw2, HX2⟩
  iapply (step_waitW m κ c _ Q 3 (wD_of_off rfl) wSem3) $$ [Hcw3 HO Haw3]
  · isplitr; · iexact HR
    isplitr; · iexact Hlev
    isplitl [Hcw3]; · iexact Hcw3
    isplitl [HO]; · iexact HO
    iexact Haw3
  iintro ⟨HO, Haw3, Hw3, HX3⟩
  ihave Hw := (w_pair c 2 3 (by decide) (WB m c)) $$ [Hw2 Hw3]
  · isplitl [Hw2] <;> iassumption
  iapply (step_load c Q (mr := Memref.whole cc0_scratch0) load1_sub (ch1 m c) rfl) $$ Hw
  iintro Hw
  ihave Hw := (w_unpair c 2 3 (by decide) (WB m c)) $$ Hw
  icases Hw with ⟨Hw2, Hw3⟩
  ihave H0 := (w_join c (WB m c) f0) $$ [Hw0 Hw1 Hw2 Hw3 Hwr]
  · isplitr [Hwr]
    · isplitl [Hw0]; · iexact Hw0
      isplitl [Hw1]; · iexact Hw1
      isplitl [Hw2] <;> iassumption
    iexact Hwr
  ihave HX := (Entails.of_eq (x_cut m c).symm) $$ [HX0 Xr0 HX1 Xr1 HX2 Xr2 HX3 Xr3]
  · isplitl [HX0 Xr0]; · isplitl [HX0] <;> iassumption
    isplitl [HX1 Xr1]; · isplitl [HX1] <;> iassumption
    isplitl [HX2 Xr2]; · isplitl [HX2] <;> iassumption
    isplitl [HX3] <;> iassumption
  -- The two rows are stored and cut into shares.
  iapply (step_load c Q (mr := Memref.whole cc0_scratch1) (Finset.subset_univ _) _ rfl) $$ H1
  iintro H1
  iapply (step_store c Q (mr := Memref.whole cc0_scratch1) (r := row0) (sRow m c) rfl) $$ H1
  iintro H1
  iapply (step_load c Q (mr := Memref.whole cc0_scratch1) (Finset.subset_univ _) _ rfl) $$ H1
  iintro H1
  iapply (step_store c Q (mr := Memref.whole cc0_scratch1) (r := row1) (lRow m c) rfl) $$ H1
  iintro H1
  ihave H1 := (s_cut m c f1) $$ H1
  icases H1 with ⟨⟨Hso, Hs0, Hs1, Hs2, Hs3, Hs4, Hs5, Hs6⟩, Hsr⟩
  -- The barrier.
  iapply (step_barwait m κ c _ Q rfl rfl) $$ [Hcb HO Hbar]
  · isplitr; · iexact HR
    isplitr; · iexact Hlev
    isplitl [Hcb]; · iexact Hcb
    isplitl [HO]; · iexact HO
    iexact Hbar
  iintro ⟨HO, Hbar, Hb0, Hb1, Hb2, Hb3, Hb4, Hb5, Hb6⟩
  -- The copies to the peers start.
  ihave Htv := (Entails.of_eq (peers_eq c fun p => dutyTok ER (recvCell p c) 0 0)) $$ Htv
  icases Htv with ⟨Htv0, Htv1, Htv2, Htv3, Htv4, Htv5, Htv6⟩
  ihave Hts := (Entails.of_eq (peers_eq c fun p => dutyTok ER (sendCell c p) 0 0)) $$ Hts
  icases Hts with ⟨Hts0, Hts1, Hts2, Hts3, Hts4, Hts5, Hts6⟩
  iapply (step_send m κ c _ Q (pr c 0) (pr_ne c 0) (0 + rT c 6 + rT c 5 + rT c 4 + rT c 3 + rT c 2 + rT c 1) (dev8_eq c) (sendSem_of (off3_eq c 0)) (recvSem_of (off4_eq c))) $$ [Hs0 Hb0 HO Hts0 Htv0]
  · isplitr; · iexact HR
    isplitl [Hs0]; · iexact Hs0
    isplitl [Hb0]; · iexact Hb0
    isplitl [HO]; · iexact HO
    isplitl [Hts0]; · iexact Hts0
    isplitr; · iapply (reach_s c (pr c 0)) $$ Hre
    iexact Htv0
  iintro ⟨Hcs0, HO⟩
  iapply (step_send m κ c _ Q (pr c 1) (pr_ne c 1) (0 + rT c 6 + rT c 5 + rT c 4 + rT c 3 + rT c 2) (dev9_eq c) (sendSem_of (off3_eq c 1)) (recvSem_of (off4_eq c))) $$ [Hs1 Hb1 HO Hts1 Htv1]
  · isplitr; · iexact HR
    isplitl [Hs1]; · iexact Hs1
    isplitl [Hb1]; · iexact Hb1
    isplitl [HO]; · iexact HO
    isplitl [Hts1]; · iexact Hts1
    isplitr; · iapply (reach_s c (pr c 1)) $$ Hre
    iexact Htv1
  iintro ⟨Hcs1, HO⟩
  iapply (step_send m κ c _ Q (pr c 2) (pr_ne c 2) (0 + rT c 6 + rT c 5 + rT c 4 + rT c 3) (dev10_eq c) (sendSem_of (off3_eq c 2)) (recvSem_of (off4_eq c))) $$ [Hs2 Hb2 HO Hts2 Htv2]
  · isplitr; · iexact HR
    isplitl [Hs2]; · iexact Hs2
    isplitl [Hb2]; · iexact Hb2
    isplitl [HO]; · iexact HO
    isplitl [Hts2]; · iexact Hts2
    isplitr; · iapply (reach_s c (pr c 2)) $$ Hre
    iexact Htv2
  iintro ⟨Hcs2, HO⟩
  iapply (step_send m κ c _ Q (pr c 3) (pr_ne c 3) (0 + rT c 6 + rT c 5 + rT c 4) (dev11_eq c) (sendSem_of (off3_eq c 3)) (recvSem_of (off4_eq c))) $$ [Hs3 Hb3 HO Hts3 Htv3]
  · isplitr; · iexact HR
    isplitl [Hs3]; · iexact Hs3
    isplitl [Hb3]; · iexact Hb3
    isplitl [HO]; · iexact HO
    isplitl [Hts3]; · iexact Hts3
    isplitr; · iapply (reach_s c (pr c 3)) $$ Hre
    iexact Htv3
  iintro ⟨Hcs3, HO⟩
  iapply (step_send m κ c _ Q (pr c 4) (pr_ne c 4) (0 + rT c 6 + rT c 5) (dev12_eq c) (sendSem_of (off3_eq c 4)) (recvSem_of (off4_eq c))) $$ [Hs4 Hb4 HO Hts4 Htv4]
  · isplitr; · iexact HR
    isplitl [Hs4]; · iexact Hs4
    isplitl [Hb4]; · iexact Hb4
    isplitl [HO]; · iexact HO
    isplitl [Hts4]; · iexact Hts4
    isplitr; · iapply (reach_s c (pr c 4)) $$ Hre
    iexact Htv4
  iintro ⟨Hcs4, HO⟩
  iapply (step_send m κ c _ Q (pr c 5) (pr_ne c 5) (0 + rT c 6) (dev13_eq c) (sendSem_of (off3_eq c 5)) (recvSem_of (off4_eq c))) $$ [Hs5 Hb5 HO Hts5 Htv5]
  · isplitr; · iexact HR
    isplitl [Hs5]; · iexact Hs5
    isplitl [Hb5]; · iexact Hb5
    isplitl [HO]; · iexact HO
    isplitl [Hts5]; · iexact Hts5
    isplitr; · iapply (reach_s c (pr c 5)) $$ Hre
    iexact Htv5
  iintro ⟨Hcs5, HO⟩
  iapply (step_send m κ c _ Q (pr c 6) (pr_ne c 6) (0) (dev14_eq c) (sendSem_of (off3_eq c 6)) (recvSem_of (off4_eq c))) $$ [Hs6 Hb6 HO Hts6 Htv6]
  · isplitr; · iexact HR
    isplitl [Hs6]; · iexact Hs6
    isplitl [Hb6]; · iexact Hb6
    isplitl [HO]; · iexact HO
    isplitl [Hts6]; · iexact Hts6
    isplitr; · iapply (reach_s c (pr c 6)) $$ Hre
    iexact Htv6
  iintro ⟨Hcs6, HO⟩
  -- Each peer's rows, as they arrive.
  ihave Hcv := (Entails.of_eq (peers_eq c fun d => cred (tallyAt (recvCell c d) () NS))) $$ Hcv
  icases Hcv with ⟨Hcv0, Hcv1, Hcv2, Hcv3, Hcv4, Hcv5, Hcv6⟩
  icases HatV with ⟨Havo, Hav0, Hav1, Hav2, Hav3, Hav4, Hav5, Hav6⟩
  iapply (step_recv m κ c _ Q (pr c 6) (pr_ne c 6) (rV_of_off (off6_eq c 0)) (recvSem_of (off3_eq c 6))) $$ [Hcv6 HO Hav6]
  · isplitr; · iexact HR
    isplitl [Hcv6]; · iexact Hcv6
    isplitl [HO]; · iexact HO
    iexact Hav6
  iintro ⟨HO, Hav6, Hv6⟩
  iapply (step_load c Q (mr := Memref.whole cc0_scratch2) (loadR_sub (pr c 6) 0 (by decide) (off7_eq c 0)) (rdS m c 0) rfl) $$ Hv6
  iintro Hv6
  iapply (step_load c Q (mr := Memref.whole cc0_scratch2) (loadR_sub (pr c 6) 1 (by decide) (off8_eq c 0)) (rdL m c 0) rfl) $$ Hv6
  iintro Hv6
  iapply (step_recv m κ c _ Q (pr c 5) (pr_ne c 5) (rV_of_off (off6_eq c 1)) (recvSem_of (off3_eq c 5))) $$ [Hcv5 HO Hav5]
  · isplitr; · iexact HR
    isplitl [Hcv5]; · iexact Hcv5
    isplitl [HO]; · iexact HO
    iexact Hav5
  iintro ⟨HO, Hav5, Hv5⟩
  iapply (step_load c Q (mr := Memref.whole cc0_scratch2) (loadR_sub (pr c 5) 0 (by decide) (off7_eq c 1)) (rdS m c 1) rfl) $$ Hv5
  iintro Hv5
  iapply (step_load c Q (mr := Memref.whole cc0_scratch2) (loadR_sub (pr c 5) 1 (by decide) (off8_eq c 1)) (rdL m c 1) rfl) $$ Hv5
  iintro Hv5
  iapply (step_recv m κ c _ Q (pr c 4) (pr_ne c 4) (rV_of_off (off6_eq c 2)) (recvSem_of (off3_eq c 4))) $$ [Hcv4 HO Hav4]
  · isplitr; · iexact HR
    isplitl [Hcv4]; · iexact Hcv4
    isplitl [HO]; · iexact HO
    iexact Hav4
  iintro ⟨HO, Hav4, Hv4⟩
  iapply (step_load c Q (mr := Memref.whole cc0_scratch2) (loadR_sub (pr c 4) 0 (by decide) (off7_eq c 2)) (rdS m c 2) rfl) $$ Hv4
  iintro Hv4
  iapply (step_load c Q (mr := Memref.whole cc0_scratch2) (loadR_sub (pr c 4) 1 (by decide) (off8_eq c 2)) (rdL m c 2) rfl) $$ Hv4
  iintro Hv4
  iapply (step_recv m κ c _ Q (pr c 3) (pr_ne c 3) (rV_of_off (off6_eq c 3)) (recvSem_of (off3_eq c 3))) $$ [Hcv3 HO Hav3]
  · isplitr; · iexact HR
    isplitl [Hcv3]; · iexact Hcv3
    isplitl [HO]; · iexact HO
    iexact Hav3
  iintro ⟨HO, Hav3, Hv3⟩
  iapply (step_load c Q (mr := Memref.whole cc0_scratch2) (loadR_sub (pr c 3) 0 (by decide) (off7_eq c 3)) (rdS m c 3) rfl) $$ Hv3
  iintro Hv3
  iapply (step_load c Q (mr := Memref.whole cc0_scratch2) (loadR_sub (pr c 3) 1 (by decide) (off8_eq c 3)) (rdL m c 3) rfl) $$ Hv3
  iintro Hv3
  iapply (step_recv m κ c _ Q (pr c 2) (pr_ne c 2) (rV_of_off (off6_eq c 4)) (recvSem_of (off3_eq c 2))) $$ [Hcv2 HO Hav2]
  · isplitr; · iexact HR
    isplitl [Hcv2]; · iexact Hcv2
    isplitl [HO]; · iexact HO
    iexact Hav2
  iintro ⟨HO, Hav2, Hv2⟩
  iapply (step_load c Q (mr := Memref.whole cc0_scratch2) (loadR_sub (pr c 2) 0 (by decide) (off7_eq c 4)) (rdS m c 4) rfl) $$ Hv2
  iintro Hv2
  iapply (step_load c Q (mr := Memref.whole cc0_scratch2) (loadR_sub (pr c 2) 1 (by decide) (off8_eq c 4)) (rdL m c 4) rfl) $$ Hv2
  iintro Hv2
  iapply (step_recv m κ c _ Q (pr c 1) (pr_ne c 1) (rV_of_off (off6_eq c 5)) (recvSem_of (off3_eq c 1))) $$ [Hcv1 HO Hav1]
  · isplitr; · iexact HR
    isplitl [Hcv1]; · iexact Hcv1
    isplitl [HO]; · iexact HO
    iexact Hav1
  iintro ⟨HO, Hav1, Hv1⟩
  iapply (step_load c Q (mr := Memref.whole cc0_scratch2) (loadR_sub (pr c 1) 0 (by decide) (off7_eq c 5)) (rdS m c 5) rfl) $$ Hv1
  iintro Hv1
  iapply (step_load c Q (mr := Memref.whole cc0_scratch2) (loadR_sub (pr c 1) 1 (by decide) (off8_eq c 5)) (rdL m c 5) rfl) $$ Hv1
  iintro Hv1
  iapply (step_recv m κ c _ Q (pr c 0) (pr_ne c 0) (rV_of_off (off6_eq c 6)) (recvSem_of (off3_eq c 0))) $$ [Hcv0 HO Hav0]
  · isplitr; · iexact HR
    isplitl [Hcv0]; · iexact Hcv0
    isplitl [HO]; · iexact HO
    iexact Hav0
  iintro ⟨HO, Hav0, Hv0⟩
  iapply (step_load c Q (mr := Memref.whole cc0_scratch2) (loadR_sub (pr c 0) 0 (by decide) (off7_eq c 6)) (rdS m c 6) rfl) $$ Hv0
  iintro Hv0
  iapply (step_load c Q (mr := Memref.whole cc0_scratch2) (loadR_sub (pr c 0) 1 (by decide) (off8_eq c 6)) (rdL m c 6) rfl) $$ Hv0
  iintro Hv0
  -- The copies to the peers have been read.
  icases HatS with ⟨Haso, Has0, Has1, Has2, Has3, Has4, Has5, Has6⟩
  iapply (step_waitsend m κ c _ Q (pr c 0) (pr_ne c 0) (sendSem_of (off3_eq c 0))) $$ [Hcs0 HO Has0]
  · isplitr; · iexact HR
    isplitl [Hcs0]; · iexact Hcs0
    isplitl [HO]; · iexact HO
    iexact Has0
  iintro ⟨HO, Has0, Hs0⟩
  iapply (step_waitsend m κ c _ Q (pr c 1) (pr_ne c 1) (sendSem_of (off3_eq c 1))) $$ [Hcs1 HO Has1]
  · isplitr; · iexact HR
    isplitl [Hcs1]; · iexact Hcs1
    isplitl [HO]; · iexact HO
    iexact Has1
  iintro ⟨HO, Has1, Hs1⟩
  iapply (step_waitsend m κ c _ Q (pr c 2) (pr_ne c 2) (sendSem_of (off3_eq c 2))) $$ [Hcs2 HO Has2]
  · isplitr; · iexact HR
    isplitl [Hcs2]; · iexact Hcs2
    isplitl [HO]; · iexact HO
    iexact Has2
  iintro ⟨HO, Has2, Hs2⟩
  iapply (step_waitsend m κ c _ Q (pr c 3) (pr_ne c 3) (sendSem_of (off3_eq c 3))) $$ [Hcs3 HO Has3]
  · isplitr; · iexact HR
    isplitl [Hcs3]; · iexact Hcs3
    isplitl [HO]; · iexact HO
    iexact Has3
  iintro ⟨HO, Has3, Hs3⟩
  iapply (step_waitsend m κ c _ Q (pr c 4) (pr_ne c 4) (sendSem_of (off3_eq c 4))) $$ [Hcs4 HO Has4]
  · isplitr; · iexact HR
    isplitl [Hcs4]; · iexact Hcs4
    isplitl [HO]; · iexact HO
    iexact Has4
  iintro ⟨HO, Has4, Hs4⟩
  iapply (step_waitsend m κ c _ Q (pr c 5) (pr_ne c 5) (sendSem_of (off3_eq c 5))) $$ [Hcs5 HO Has5]
  · isplitr; · iexact HR
    isplitl [Hcs5]; · iexact Hcs5
    isplitl [HO]; · iexact HO
    iexact Has5
  iintro ⟨HO, Has5, Hs5⟩
  iapply (step_waitsend m κ c _ Q (pr c 6) (pr_ne c 6) (sendSem_of (off3_eq c 6))) $$ [Hcs6 HO Has6]
  · isplitr; · iexact HR
    isplitl [Hcs6]; · iexact Hcs6
    isplitl [HO]; · iexact HO
    iexact Has6
  iintro ⟨HO, Has6, Hs6⟩
  -- The result row.
  iapply (step_load c Q (mr := Memref.whole cc0_stg2_0) (Finset.subset_univ _) _ rfl) $$ Ho
  iintro Ho
  iapply (step_store c Q (mr := Memref.whole cc0_stg2_0) (r := Rect.unit (s := S1x512) ![0, 0] S1x512.size inb_S1x512_S1x512_0_0) (outRow m c) rfl) $$ Ho
  iintro Ho
  unfold run
  rw [wp_ret]
  imod (bar_close m κ c) $$ [Hbar] with Hbar
  · isplitr; · iexact HR
    iexact Hbar
  ihave Hat := (Entails.of_eq (own_eq c fun k => atPos ER ((c : Thread nD τ), osem k) (Rk c k) ∅ 0).symm) $$ [Haw0 Haw1 Haw2 Haw3 Haso Has0 Has1 Has2 Has3 Has4 Has5 Has6 Havo Hav0 Hav1 Hav2 Hav3 Hav4 Hav5 Hav6]
  · simp only [Rk_w, Rk_so, Rk_ro, Rk_s, Rk_r]
    isplitl [Haw0 Haw1 Haw2 Haw3]
    · isplitl [Haw0]; · iexact Haw0
      isplitl [Haw1]; · iexact Haw1
      isplitl [Haw2]; · iexact Haw2
      iexact Haw3
    isplitl [Haso Has0 Has1 Has2 Has3 Has4 Has5 Has6]
    · isplitl [Haso]; · iexact Haso
      isplitl [Has0]; · iexact Has0
      isplitl [Has1]; · iexact Has1
      isplitl [Has2]; · iexact Has2
      isplitl [Has3]; · iexact Has3
      isplitl [Has4]; · iexact Has4
      isplitl [Has5]; · iexact Has5
      iexact Has6
    isplitl [Havo]; · iexact Havo
    isplitl [Hav0]; · iexact Hav0
    isplitl [Hav1]; · iexact Hav1
    isplitl [Hav2]; · iexact Hav2
    isplitl [Hav3]; · iexact Hav3
    isplitl [Hav4]; · iexact Hav4
    isplitl [Hav5]; · iexact Hav5
    iexact Hav6
  imod (own_close m κ c) $$ [Hat] with Hat
  · isplitr; · iexact HR
    iexact Hat
  ihave H2 := (r_join c (RB m) f2) $$ [Hv0 Hv1 Hv2 Hv3 Hv4 Hv5 Hv6 Hvr]
  · isplitr [Hvr]
    · isplitl [Hv0]; · iexact Hv0
      isplitl [Hv1]; · iexact Hv1
      isplitl [Hv2]; · iexact Hv2
      isplitl [Hv3]; · iexact Hv3
      isplitl [Hv4]; · iexact Hv4
      isplitl [Hv5]; · iexact Hv5
      iexact Hv6
    iexact Hvr
  ihave H1 := (s_join m c (sAfter m c f1)) $$ [Hso Hs0 Hs1 Hs2 Hs3 Hs4 Hs5 Hs6 Hsr]
  · isplitr [Hsr]
    · isplitl [Hso]; · iexact Hso
      isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      iexact Hs6
    iexact Hsr
  imodintro
  iapply Hk
  unfold bodyPost talkPost scratch
  isplitl [Hbar Hat]; · isplitl [Hbar] <;> iassumption
  isplitl [HO]; · iexact HO
  isplitl [H0 H1 H2]
  · isplitl [H0]; · iexact H0
    isplitl [H1] <;> iassumption
  isplitl [HX]; · iexact HX
  isplitl [Hx]; · iexact Hx
  isplitl [Hl]; · iexact Hl
  ihave Ho := (Entails.of_eq (congrArg (fun g => ((c : Thread nD τ).loc cc0_stg2_0 ↦{fullShare} g : sProp 𝕄))
    (Memref.write_access_unit_zero_univ (Elt F) cc0_stg2_0 off00 inb_S1x512_S1x512_0_0 fo (outRow m c)))) $$ Ho
  iexact Ho

end Cert.KernelIdeal.Talk
-- ==== Proof.Region.lean ====
/- The kernel region: its proof data, the body's obligation, and what a device has of the protocol before and after it. -/
module

public import proofs.«01_k».proof.Proof.Body
public import Idealize.ShloMosaic.Lib.Pipeline.RegionTalk
public import Idealize.ShloMosaic.Lib.Pipeline.RegionArraysS

@[expose] public section

set_option maxRecDepth 16384

noncomputable section

namespace Cert.KernelIdeal.Talk

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

variable (m : (ℓ : Loc nD τ sig) → Buf (Elt F) ℓ)

/-! ## Proof data -/

/-- What enters the body's invariant beside the scratch buffers and the generator register, and what leaves it. -/
def Xin (c : Dev nD) : sProp 𝕄 := iprop((∃ κ, records m κ ∗ talkPre c) ∗ levAts L lv ∗ (locX c ↦{fullShare} V m c main_arg1))
def Yout (c : Dev nD) : sProp 𝕄 := iprop(talkPost c ∗ (locX c ↦{fullShare} V m c main_arg1))

def dat (c : Dev nD) : Dat τ (Elt F) Unit ℕ UU ℕ cfg0 c where
  A w := V m c (Pipeline.arrRef spec0 w)
  after w _ := match w with
    | ⟨0, _⟩ => xstg m c
    | ⟨1, _⟩ => lstg m c
    | ⟨2, _⟩ => outRow m c
  Φ t := if t.val = 0 then iprop(Xin m c ∗ scratch c ∗ ∃ r, prngReg c r) else iprop(Yout m c ∗ scratch c ∗ ∃ r, prngReg c r)
  q _ := fullShare
  owed t := if t.val = 0 then O₀ c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat m

theorem owed_zero (c : Dev nD) : (pdats (F := F) m 0 c).owed 0 = O₀ c := by
  show (if ((0 : Fin (cfg0.N + 1)).val = 0) then O₀ c else 0) = O₀ c; exact if_pos rfl
theorem owed_first (c : Dev nD) : (dat (F := F) m c).owed t0_0.castSucc = O₀ c := by
  show (if (t0_0.castSucc : Fin (cfg0.N + 1)).val = 0 then O₀ c else 0) = O₀ c; exact if_pos rfl
theorem owed_last (c : Dev nD) : (pdats (F := F) m 0 c).owed (Fin.last _) = 0 := by
  show (if (Fin.last cfg0.N).val = 0 then O₀ c else 0) = 0
  rw [Fin.val_last, if_neg (by rw [show cfg0.N = 1 from N_0]; decide)]

theorem owes_in (c : Dev nD) (t : Fin (cfg0.N + 1)) (O : CellTallies nD τ sig Unit) (h0 : (dat (F := F) m c).owed t = O) :
    (ow c O : sProp 𝕄) ⊢ ((dat m c).owesAt () t : sProp 𝕄) := by
  unfold ow Dat.owesAt Pipeline.owesWithin Dat.bound
  rw [h0]
  iintro ⟨%W, HO⟩
  iexists W
  isplitr; · ipureintro; exact fun _ _ => Or.inl trivial
  iexact HO
theorem owes_out (c : Dev nD) (t : Fin (cfg0.N + 1)) (O : CellTallies nD τ sig Unit) (h0 : (dat (F := F) m c).owed t = O) :
    ((dat m c).owesAt () t : sProp 𝕄) ⊢ (ow c O : sProp 𝕄) := by
  unfold ow Dat.owesAt Pipeline.owesWithin
  rw [h0]
  iintro ⟨%W, -, HO⟩
  iexists W; iexact HO

theorem share_full (c : Dev nD) (w : Fin cfg0.W) : (dat (F := F) m c).share w = fullShare := by unfold Dat.share; split <;> rfl

/-! ## The body's obligation -/

abbrev stg (c : Dev nD) (b : Ref sig .tc) (v : b.ty.Contents (Elt F)) : sProp 𝕄 :=
  iprop(∃ f : Buf (Elt F) ((c : Thread nD τ).loc b), ⌜f = v⌝ ∗ ((c : Thread nD τ).loc b ↦{fullShare} f))

def obPre (c : Dev nD) : sProp 𝕄 :=
  iprop((Xin m c ∗ scratch c ∗ ∃ r, prngReg c r) ∗ (dat m c).owesAt () t0_0.castSucc
    ∗ (∃ d, stg c cc0_stg0_0 ((dat m c).before (0 : Fin 3) t0_0 d))
    ∗ (∃ d, stg c cc0_stg1_0 ((dat m c).before (1 : Fin 3) t0_0 d))
    ∗ (∃ d, stg c cc0_stg2_0 ((dat m c).before (2 : Fin 3) t0_0 d)))
def obPost (c : Dev nD) : sProp 𝕄 :=
  iprop((Yout m c ∗ scratch c ∗ ∃ r, prngReg c r) ∗ (dat m c).owesAt () t0_0.succ
    ∗ stg c cc0_stg0_0 (xstg m c) ∗ stg c cc0_stg1_0 (lstg m c) ∗ stg c cc0_stg2_0 (outRow m c))

theorem body_ob (c : Dev nD) : obPre m c ⊢ run c (fun _ => obPost m c) (bodyProg (F := F)) := by
  unfold obPre obPost Xin Yout
  iintro ⟨⟨⟨⟨%κ, #HR, Htalk⟩, #Hlev, HX⟩, Hscr, Hreg⟩, HO, ⟨%d0, %g0, %hg0, Hx⟩, ⟨%d1, %g1, %hg1, Hl⟩, ⟨%d2, %g2, %hg2, Ho⟩⟩
  have hx : g0 = xstg m c := by rw [hg0]; unfold Dat.before; rw [if_pos (fetch0_0 t0_0)]; rfl
  have hl : g1 = lstg m c := by rw [hg1]; unfold Dat.before; rw [if_pos (fetch0_1 t0_0)]; rfl
  subst hx hl
  ihave HO := (owes_out m c _ (O₀ c) (owed_first m c)) $$ HO
  iapply (body_run m κ c _)
  unfold bodyPre bodyPost
  isplitr [Hreg]
  · isplitr; · iexact HR
    isplitr; · iexact Hlev
    isplitl [Htalk]; · iexact Htalk
    isplitl [HO]; · iexact HO
    isplitl [Hscr]; · iexact Hscr
    isplitl [HX]; · iexact HX
    isplitl [Hx]; · iexact Hx
    isplitl [Hl]; · iexact Hl
    iexists g2; iexact Ho
  iintro ⟨Htalk, HO, Hscr, HX, Hx, Hl, Ho⟩
  isplitl [Htalk Hscr HX Hreg]
  · isplitl [Htalk HX]; · isplitl [Htalk] <;> iassumption
    isplitl [Hscr] <;> iassumption
  isplitl [HO]; · iapply (owes_in m c t0_0.succ 0 (owed_last m c)); iexact HO
  isplitl [Hx]
  · iexists _; isplitr; · (ipureintro; rfl)
    iexact Hx
  isplitl [Hl]
  · iexists _; isplitr; · (ipureintro; rfl)
    iexact Hl
  iexists _; isplitr; · (ipureintro; rfl)
  iexact Ho

theorem body_obligation (c : Dev nD) : BodyObligation (dat (F := F) m c) defs₀ 𝒱₀ () Set.univ := fun t => by
  rw [fin_N0 t]
  rw [bigSep_W0, bigSep_W0]
  simp only [owns_whole_eq]
  exact body_ob m c

/-! ## What a device has of the protocol around the region -/

/-- What stays with a device from launch: its barrier position, its rights to open its own cells, the tokens of the duties it pays. -/
def linear (c : Dev nD) : sProp 𝕄 :=
  iprop(atPos ER (barCell c) 0 ∅ 0
    ∗ (bigSep (Finset.univ : Finset KK) fun k => openTok ER ((c : Thread nD τ), osem k))
    ∗ (bigSep (Finset.univ.erase c) fun p => dutyTok ER (barCell p) 0 c)
    ∗ (bigSep (Finset.univ.erase c) fun p => dutyTok ER (recvCell p c) 0 0)
    ∗ (bigSep (Finset.univ.erase c) fun p => dutyTok ER (sendCell c p) 0 0)
    ∗ (bigSep (Finset.univ : Finset (Fin 4)) fun j => dutyTok ER (wCell c j) 0 0))

/-- What the others owe it. -/
def dues (c : Dev nD) : sProp 𝕄 :=
  iprop(cred (tallyAt (barCell c) () 7) ∗ (bigSep (Finset.univ.erase c) fun d => cred (tallyAt (recvCell c d) () NS)))

def Tk (c : Dev nD) : sProp 𝕄 := iprop((∃ κ, records m κ ∗ linear c) ∗ dues c)
def Xk (c : Dev nD) : sProp 𝕄 := iprop((∃ κ, records m κ ∗ talkPre c) ∗ levAts L lv)
def Yk (c : Dev nD) : sProp 𝕄 := semVal (barCell c) 0

theorem ownSems_eq (c : Dev nD) : (Pipeline.ownSems0 osem c : sProp 𝕄) = bigSep (Finset.univ : Finset KK) fun k => semVal ((c : Thread nD τ), osem k) 0 := rfl

/-- The device's own cells are opened, all at once. -/
theorem own_open (κ : GSem nD τ sig → ℕ) (c : Dev nD) :
    iprop((records m κ ∗ bigSep (Finset.univ : Finset KK) fun k => openTok ER ((c : Thread nD τ), osem k))
        ∗ bigSep (Finset.univ : Finset KK) fun k => semVal ((c : Thread nD τ), osem k) 0)
      ⊢ (|={Set.univ}=> iprop((bigSep (Finset.univ : Finset KK) fun k => atPos ER ((c : Thread nD τ), osem k) 0 ∅ 0)
          ∗ (bigSep (Finset.univ : Finset KK) fun k => reached ER ((c : Thread nD τ), osem k) 0)) : sProp 𝕄) := by
  have h1 : iprop(records m κ ∗ bigSep (Finset.univ : Finset KK) fun k => openTok ER ((c : Thread nD τ), osem k))
      ⊢ (bigSep (Finset.univ : Finset KK) fun k => iprop(cellInv ER (Rd m) (κ ((c : Thread nD τ), osem k)) ((c : Thread nD τ), osem k)
          ∗ openTok ER ((c : Thread nD τ), osem k)) : sProp 𝕄) :=
    bigSep_with_persistent (R := records m κ) fun k _ => by
      iintro ⟨#HR, H⟩
      isplitr; · iapply (rec_own m κ c k) $$ HR
      iexact H
  have h2 := Rounds.cells_open ER (Rd m) Finset.univ (fun k : KK => ((c : Thread nD τ), osem k)) (fun k => κ ((c : Thread nD τ), osem k)) (Es := Set.univ)
    (fun _ _ => Set.mem_univ _)
  iintro ⟨H, Hs⟩
  ihave H := h1 $$ H
  imod h2 $$ [H Hs] with H
  · isplitl [H] <;> iassumption
  imodintro
  iapply (Entails.of_eq (BI.bigSep_sep _ _ _)); iexact H

theorem hopen (c : Dev nD) : iprop(Tk m c ∗ Pipeline.ownSems0 osem c ∗ levAts L lv) ⊢ (|={Set.univ}=> Xk m c : sProp 𝕄) := by
  rw [ownSems_eq]
  unfold Tk Xk linear dues talkPre
  iintro ⟨⟨⟨%κ, #HR, Hat, Hop, H1, H2, H3, H4⟩, Hc1, Hc2⟩, Hsem, #Hlev⟩
  imod (own_open m κ c) $$ [Hop Hsem] with ⟨Hats, Hre⟩
  · isplitr [Hsem]
    · isplitr; · iexact HR
      iexact Hop
    iexact Hsem
  imodintro
  isplitl
  · iexists κ
    isplitr; · iexact HR
    isplitl [Hat]; · iexact Hat
    isplitl [Hats]; · iexact Hats
    isplitl [Hre]; · iexact Hre
    isplitl [H1]; · iexact H1
    isplitl [H2]; · iexact H2
    isplitl [H3]; · iexact H3
    isplitl [H4]; · iexact H4
    isplitl [Hc1] <;> iassumption
  iexact Hlev

/-! ## The region -/

/-- The unscoped buffers; those that are no window's array; the one that the body addresses itself. -/
def bufs : Finset (DevRef τ sig) := (StableHlo.tcRefs τ sig).filter fun b => ¬ b.isScoped
abbrev arrs : Finset (DevRef τ sig) := Pipeline.arrRefs (τ := τ) (pcfgs (F := F) 0).spec
def Hs : Finset (DevRef τ sig) := {Proc.devRef .tc main_arg1}
def Sr : Finset (DevRef τ sig) := bufs \ arrs (F := F)

theorem arrs_sub : arrs (F := F) ⊆ bufs := by
  intro b hb
  obtain ⟨r, hr, rfl⟩ := Finset.mem_map.mp hb
  obtain ⟨w, -, rfl⟩ := Finset.mem_image.mp hr
  exact (by decide : ∀ w : Fin 3, Proc.devRef .tc (Pipeline.arrRef spec0 w) ∈ bufs) w
theorem Hs_sub : Hs ⊆ Sr (F := F) := by
  intro b hb
  rw [Hs, Finset.mem_singleton] at hb
  subst hb
  refine Finset.mem_sdiff.mpr ⟨by decide, fun h => ?_⟩
  obtain ⟨r, hr, e⟩ := Finset.mem_map.mp h
  obtain ⟨w, -, rfl⟩ := Finset.mem_image.mp hr
  have key : ∀ w : Fin 3, Pipeline.arrRef spec0 w ≠ main_arg1 := by decide
  exact key w (Proc.devRef_injective _ e)

theorem held_Hs (c : Dev nD) (W : Valuation τ sig (Elt F)) :
    (StableHlo.held (c : Thread nD τ) Hs W : sProp 𝕄) = (locX c ↦{fullShare} W (Proc.devRef .tc main_arg1)) := by
  unfold StableHlo.held Hs
  rw [BI.bigSep_singleton]

/-- The buffers' contents as the region finds them, and as it leaves them. -/
abbrev V₁ (c : Dev nD) : Valuation τ sig (Elt F) := V0 m c
def V₂ (c : Dev nD) : Valuation τ sig (Elt F) := Pipeline.afterRegion (dat m c) (V₁ m c)

theorem V₂_arg1 (c : Dev nD) : V₂ m c (Proc.devRef .tc main_arg1) = V m c main_arg1 :=
  Pipeline.afterRegion_of_not_arr (dat m c) (V₁ m c) (by decide : ∀ w : Fin 3, main_arg1 ≠ Pipeline.arrRef spec0 w)

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem rest_eq (c : Dev nD) : (Pipeline.scopedRest (Ix := Unit) (Name := ℕ) (U := UU) (Lvl := ℕ) (Val := Elt F) (Pipeline.pin (pcfgs (F := F)) adm 0).spec c : sProp 𝕄) = scratch c :=
  scopedRest0_eq c

theorem hin (c : Dev nD) : iprop(Pipeline.scopedRest (Pipeline.pin (pcfgs (F := F)) adm 0).spec c ∗ (∃ r, prngReg c r) ∗ StableHlo.held (c.tc : Thread nD τ) Hs (V₁ m c) ∗ Xk m c)
    ⊢ (pdats m 0 c).Φ 0 := by
  rw [show (pdats m 0 c).Φ 0 = iprop(Xin m c ∗ scratch c ∗ ∃ r, prngReg c r) from rfl, rest_eq, held_Hs]
  unfold Xin Xk
  iintro ⟨Hs, Hp, HX, HK, Hlev⟩
  isplitl [HX HK Hlev]
  · isplitl [HK]; · iexact HK
    isplitl [Hlev] <;> iassumption
  isplitl [Hs] <;> iassumption

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) Hs (V₂ m c) ∗ Pipeline.ownSems0 osem c ∗ Yk c) := by
  rw [show (pdats m 0 c).Φ (Fin.last _) = iprop(Yout m c ∗ scratch c ∗ ∃ r, prngReg c r) from rfl, rest_eq, held_Hs, V₂_arg1, ownSems_eq]
  unfold Yout Yk talkPost
  iintro ⟨⟨⟨Hb, Hsem⟩, HX⟩, Hs, Hp⟩
  isplitl [Hs]; · iexact Hs
  isplitl [Hp]; · iexact Hp
  isplitl [HX]; · iexact HX
  isplitl [Hsem] <;> iassumption

theorem lv_stage : ∀ (w : Fin 3) (s : Fin (spec0 w).nbuf), ((spec0 w).sem s).val < 15 := by decide

theorem cutD (c : Dev nD) (t : Fin ((Pipeline.pin (pcfgs (F := F)) adm 0).N + 1)) (g : GSem nD τ sig) (i : Unit) (h : 0 < (pdats (F := F) m 0 c).owed t g i) :
    i ∈ L g ∧ (0 : ℕ) < lv g i := by
  have e : (pdats (F := F) m 0 c).owed t = if t.val = 0 then O₀ c else 0 := rfl
  rw [e] at h
  split at h
  · rcases O₀_pos h with ⟨k, rfl⟩ | ⟨k, rfl⟩
    · exact ⟨by rw [L_tc]; exact Finset.mem_singleton_self _, by rw [lv_recv]; decide⟩
    · exact ⟨by rw [L_tc]; exact Finset.mem_singleton_self _, by rw [lv_bar]; decide⟩
  · exact absurd h (Nat.lt_irrefl 0)

set_option backward.isDefEq.respectTransparency.types false in
def reg : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    Hs (Sr (F := F)) Hs_sub kitP rfl (fun c => (body_obligation m c).loose)
    (fun _ => 0) O₀ (fun c => (owed_zero m c).trans (zero_add _).symm) (owed_last m) (fun _ => rfl) (share_full m)
    (V₁ m) (V₂ m) (fun c b hb => Pipeline.afterRegion_off (dat m c) (V₁ m c) bufs b (Finset.mem_sdiff.mp hb).1)
    (Tk m) Yk (Xk m) Yk (hopen m) (hin m) (hout m)
    (fun c => by iintro H; imodintro; iexact H)
    (fun _ => 0)
    ⟨fun c w s => by rw [L_tc]; exact Finset.mem_singleton_self _,
      fun c w s => by
        have h := lv_stage w s
        show (if ((spec0 w).sem s).val < 15 then 0 else 2) ≤ 0
        rw [if_pos h], fun c t g i h => cutD m c t g i h⟩
    (fun _ => iprop(emp))
    (fun c w => rfl) (fun c w => (Pipeline.afterRegion_arr (dat m c) (V₁ m c) winFacts0.arr_inj w).symm)

end Cert.KernelIdeal.Talk
-- ==== Proof.Deal.lean ====
/- What launch deals to the devices: the tokens of the duties, the credits for what the others owe, and the cells' invariants. -/
module

public import proofs.«01_k».proof.Proof.Region

@[expose] public section

set_option maxRecDepth 16384

noncomputable section

namespace Cert.KernelIdeal.Talk

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Tokens -/

abbrev tokAt : (Dev nD × Dev nD) ⊕ (Dev nD × KK) → GSem nD τ sig × ℕ × Dev nD
  | .inl cd => (barCell cd.1, 0, cd.2)
  | .inr ck => (((ck.1 : Thread nD τ), osem ck.2), 0, 0)

theorem tokAt_inj : Function.Injective tokAt := by
  rintro (⟨c, d⟩ | ⟨c, k⟩) (⟨c', d'⟩ | ⟨c', k'⟩) h
  · obtain rfl : c = c' := congrArg (fun t : GSem nD τ sig × ℕ × Dev nD => t.1.1.1) h
    obtain rfl : d = d' := congrArg (fun t : GSem nD τ sig × ℕ × Dev nD => t.2.2) h
    rfl
  · exact absurd (congrArg (fun t : GSem nD τ sig × ℕ × Dev nD => t.1.2) h).symm (osem_ne_bar k')
  · exact absurd (congrArg (fun t : GSem nD τ sig × ℕ × Dev nD => t.1.2) h) (osem_ne_bar k)
  · obtain rfl : c = c' := congrArg (fun t : GSem nD τ sig × ℕ × Dev nD => t.1.1.1) h
    obtain rfl : k = k' := osem_inj (congrArg (fun t : GSem nD τ sig × ℕ × Dev nD => t.1.2) h)
    rfl

/-- Every duty's token: a barrier unit of each device at each device, and one at each of the kernel's own cells. -/
def talkToks : Finset (GSem nD τ sig × ℕ × Dev nD) := Finset.univ.map ⟨tokAt, tokAt_inj⟩

/-- A device's tokens, as the cells that they belong to are numbered. -/
def toks (c : Dev nD) : sProp 𝕄 :=
  iprop((bigSep Finset.univ fun d : Dev nD => dutyTok ER (barCell c) 0 d)
    ∗ (bigSep (Finset.univ : Finset (Fin 4)) fun j => dutyTok ER (wCell c j) 0 0)
    ∗ (bigSep Finset.univ fun d : Dev nD => dutyTok ER (sendCell c d) 0 0)
    ∗ (bigSep Finset.univ fun d : Dev nD => dutyTok ER (recvCell c d) 0 0))

theorem toks_eq : bigSep talkToks (fun x => (dutyTok ER x.1 x.2.1 x.2.2 : sProp 𝕄)) = bigSep Finset.univ fun c : Dev nD => toks c := by
  unfold talkToks toks
  rw [bigSep_map, bigSep_univ_sum, bigSep_univ_prod, bigSep_univ_prod, bigSep_sep']
  refine congrArg₂ _ rfl (bigSep_congr fun c _ => ?_)
  rw [bigSep_univ_sum, bigSep_univ_sum]
  rfl

/-- The same as they are spent: a barrier's and a receive's token by the device that signals or sends. -/
def toksSpent (c : Dev nD) : sProp 𝕄 :=
  iprop((bigSep (Finset.univ.erase c) fun p => dutyTok ER (barCell p) 0 c)
    ∗ (bigSep (Finset.univ.erase c) fun p => dutyTok ER (recvCell p c) 0 0)
    ∗ (bigSep (Finset.univ.erase c) fun p => dutyTok ER (sendCell c p) 0 0)
    ∗ (bigSep (Finset.univ : Finset (Fin 4)) fun j => dutyTok ER (wCell c j) 0 0))

theorem toks_around : (bigSep Finset.univ fun c : Dev nD => (toks c : sProp 𝕄)) ⊢ bigSep Finset.univ fun c : Dev nD => toksSpent c := by
  have hb : (bigSep Finset.univ fun c : Dev nD => bigSep Finset.univ fun d : Dev nD => (dutyTok ER (barCell c) 0 d : sProp 𝕄))
      ⊢ bigSep Finset.univ fun c : Dev nD => bigSep (Finset.univ.erase c) fun p => dutyTok ER (barCell p) 0 c := by
    rw [BI.bigSep_univ_comm]
    exact bigSep_mono fun c _ => bigSep_subset (Finset.erase_subset _ _)
  have hr : (bigSep Finset.univ fun c : Dev nD => bigSep Finset.univ fun d : Dev nD => (dutyTok ER (recvCell c d) 0 0 : sProp 𝕄))
      ⊢ bigSep Finset.univ fun c : Dev nD => bigSep (Finset.univ.erase c) fun p => dutyTok ER (recvCell p c) 0 0 := by
    rw [BI.bigSep_univ_comm]
    exact bigSep_mono fun c _ => bigSep_subset (Finset.erase_subset _ _)
  have hs : (bigSep Finset.univ fun c : Dev nD => bigSep Finset.univ fun d : Dev nD => (dutyTok ER (sendCell c d) 0 0 : sProp 𝕄))
      ⊢ bigSep Finset.univ fun c : Dev nD => bigSep (Finset.univ.erase c) fun p => dutyTok ER (sendCell c p) 0 0 :=
    bigSep_mono fun c _ => bigSep_subset (Finset.erase_subset _ _)
  unfold toks toksSpent
  simp only [bigSep_sep']
  iintro ⟨H1, H2, H3, H4⟩
  isplitl [H1]; · iapply hb $$ H1
  isplitl [H4]; · iapply hr $$ H4
  isplitl [H3]; · iapply hs $$ H3
  iexact H2

/-! ## Credits -/

theorem recv_ne_bar : ∀ d : Dev nD, (SemLoc.dma (recvS d) : SemLoc sig) ≠ .reg barS := by decide
theorem bT_bar (d : Dev nD) (k : Fin 7) (c : Dev nD) : bT d k (barCell c) () = if pr d k = c then 1 else 0 := by
  rw [tallyAt_apply]
  refine if_congr ⟨fun h => ?_, fun h => ⟨by rw [h], rfl⟩⟩ rfl rfl
  exact (congrArg (fun g : GSem nD τ sig => g.1.1) h.1).symm
theorem bT_recv (d : Dev nD) (k : Fin 7) (c e : Dev nD) : bT d k (recvCell c e) () = 0 := by
  rw [tallyAt_apply]
  exact if_neg fun h => recv_ne_bar e (congrArg (fun g : GSem nD τ sig => g.2) h.1)
theorem rT_bar (d : Dev nD) (k : Fin 7) (c : Dev nD) : rT d k (barCell c) () = 0 := by
  rw [tallyAt_apply]
  exact if_neg fun h => recv_ne_bar d (congrArg (fun g : GSem nD τ sig => g.2) h.1).symm
theorem recvS_inj : ∀ d e : Dev nD, (SemLoc.dma (recvS d) : SemLoc sig) = .dma (recvS e) → d = e := by decide
theorem rT_recv (d : Dev nD) (k : Fin 7) (c e : Dev nD) : rT d k (recvCell c e) () = (if pr d k = c ∧ d = e then 1 else 0) * NS := by
  rw [tallyAt_apply, ite_mul, one_mul, zero_mul]
  refine if_congr ⟨fun h => ⟨?_, ?_⟩, fun h => ⟨by rw [h.1, h.2], rfl⟩⟩ rfl rfl
  · exact (congrArg (fun g : GSem nD τ sig => g.1.1) h.1).symm
  · exact (recvS_inj _ _ (congrArg (fun g : GSem nD τ sig => g.2) h.1)).symm

theorem O₀_at (d : Dev nD) (g : GSem nD τ sig) : O₀ d g () = 0 + rT d 6 g () + rT d 5 g () + rT d 4 g () + rT d 3 g () + rT d 2 g () + rT d 1 g () + rT d 0 g ()
    + bT d 6 g () + bT d 5 g () + bT d 4 g () + bT d 3 g () + bT d 2 g () + bT d 1 g () + bT d 0 g () := rfl

theorem O₀_bar (d c : Dev nD) : O₀ d (barCell c) () = if d = c then 0 else 1 := by
  rw [O₀_at]
  simp only [bT_bar, rT_bar]
  revert d c; decide
theorem O₀_recv (d c e : Dev nD) : O₀ d (recvCell c e) () = (if d = e ∧ c ≠ e then 1 else 0) * NS := by
  rw [O₀_at]
  rw [rT_recv d 6, rT_recv d 5, rT_recv d 4, rT_recv d 3, rT_recv d 2, rT_recv d 1, rT_recv d 0,
    bT_recv d 6, bT_recv d 5, bT_recv d 4, bT_recv d 3, bT_recv d 2, bT_recv d 1, bT_recv d 0]
  generalize NS = n
  simp only [add_zero, zero_add, ← add_mul]
  refine congrArg (· * n) ?_
  revert d c e; decide

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => O₀_bar d c]
  revert c; decide
theorem launch_recv (c e : Dev nD) (h : e ≠ c) :
    tallyOn (recvCell c e) (launchCredit (Pipeline.owing O₀) 0 (recvCell c e)) = (tallyAt (recvCell c e) () NS : CellTallies nD τ sig Unit) := by
  unfold tallyAt; refine congrArg _ (Finsupp.ext fun u => ?_); cases u
  rw [Pipeline.launchCredit_owing, Finsupp.single_eq_same, Finset.sum_congr rfl fun d _ => O₀_recv d c e, ← Finset.sum_mul]
  rw [Finset.sum_eq_single e (fun d _ hd => if_neg fun hh => hd hh.1) (fun hh => absurd (Finset.mem_univ e) hh), if_pos ⟨rfl, h.symm⟩, one_mul]

def recvEmb : Dev nD ↪ SemLoc sig := ⟨fun d => .dma (recvS d), fun d e h => recvS_inj d e h⟩
theorem recv_sub : ∀ c : Dev nD, ((Finset.univ.erase c).map recvEmb) ⊆ (Finset.univ.erase (SemLoc.reg barS) : Finset (SemLoc sig)) := by
  intro c x hx
  obtain ⟨d, -, rfl⟩ := Finset.mem_map.mp hx
  exact Finset.mem_erase.mpr ⟨recv_ne_bar d, Finset.mem_univ _⟩

theorem creds (c : Dev nD) : (Pipeline.launchCred O₀ c : sProp 𝕄) ⊢ dues c := by
  unfold Pipeline.launchCred dues
  rw [bigSep_univ_at _ (SemLoc.reg barS), launch_bar]
  refine sep_mono_right ((bigSep_subset (recv_sub c)).trans ?_)
  rw [bigSep_map]
  exact bigSep_mono fun d hd => Entails.of_eq (congrArg cred (launch_recv c d (Finset.ne_of_mem_erase hd)))

/-! ## The launch element -/

theorem disjoint_cells : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)

def u₀ : UU :=
  (initOf (Pipeline.cells (Pipeline.pin (pcfgs (F := F)) adm) cellOf_inj) (Pipeline.launchToks (Pipeline.pin (pcfgs (F := F)) adm) cellOf_inj),
    launchOf barCells scCells talkToks)

/-- All of the protocol's launch element waits on device 0 until it is dealt. -/
def G (c : Dev nD) : sProp 𝕄 := if c = 0 then BI.own (ER (launchOf barCells scCells talkToks)) else iprop(emp)
theorem G_eq : bigSep Finset.univ (G (F := F)) = BI.own (ER (launchOf barCells scCells talkToks)) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

theorem unscopedSems_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

theorem unscopedBufs_eq (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl

/-! ## The deal -/

/-- The buffers' contents at launch. -/
abbrev Vl (c : Dev nD) : Valuation τ sig (Elt F) := fun b => m (c, b)

/-- What rides beside the buffers up to the region. -/
def R₀ (c : Dev nD) : sProp 𝕄 := iprop(Tk m c ∗ (∃ r, prngReg c r) ∗ ow c (O₀ c))
abbrev T₀ (c : Dev nD) : sProp 𝕄 := iprop(StableHlo.held (c : Thread nD τ) bufs (Vl m c) ∗ R₀ m c)

/-- A device's launch holdings but for the protocol's ghost state. -/
def bundle (c : Dev nD) : sProp 𝕄 :=
  iprop(StableHlo.held (c : Thread nD τ) bufs (Vl m c) ∗ dues c ∗ owes (c : Thread nD τ) (O₀ c) ∅ ∗ ∃ r, prngReg c r)

theorem T₀_intro (κ : GSem nD τ sig → ℕ) (c : Dev nD) : iprop(records m κ ∗ (linear c ∗ bundle m c)) ⊢ T₀ m c := by
  unfold bundle T₀ R₀ Tk ow
  iintro ⟨#HR, Hl, Hh, Hd, HO, Hp⟩
  isplitl [Hh]; · iexact Hh
  isplitl [Hl Hd]
  · isplitl [Hl]
    · iexists κ
      isplitr; · iexact HR
      iexact Hl
    iexact Hd
  isplitl [Hp]; · iexact Hp
  iexists ∅; iexact HO

def dealt (c : Dev nD) : sProp 𝕄 :=
  iprop(unscopedBufs c (fun b => m ((c : Thread nD τ).loc b)) ∗ unscopedSems0 c
    ∗ owes (c : Thread nD τ) (O₀ c) ∅ ∗ Pipeline.launchCred O₀ c ∗ prngReg c (ρ c) ∗ G c)

theorem dealt_core (c : Dev nD) : dealt m ρ c ⊢ (iprop(bundle m c ∗ semVal (barCell c) 0 ∗ G c) : sProp 𝕄) := by
  unfold dealt
  rw [show unscopedBufs c (fun b => m ((c : Thread nD τ).loc b)) = StableHlo.held (c : Thread nD τ) bufs (Vl m c) from unscopedBufs_eq c (Vl m c),
    unscopedSems_eq]
  unfold bundle
  iintro ⟨Hh, Hus, HO, Hcr, Hp, HG⟩
  ihave Hc := (creds (F := F) c) $$ Hcr
  isplitl [Hh Hc HO Hp]
  · isplitl [Hh]; · iexact Hh
    isplitl [Hc]; · iexact Hc
    isplitl [HO]; · iexact HO
    iexists (ρ c); iexact Hp
  isplitl [Hus] <;> iassumption

/-- The protocol's pieces, gathered by device. -/
theorem linear_of : iprop(bigSep barCells (fun g => (atPos ER g 0 ∅ 0 : sProp 𝕄)) ∗ bigSep scCells (fun g => (openTok ER g : sProp 𝕄))
    ∗ bigSep talkToks (fun x => (dutyTok ER x.1 x.2.1 x.2.2 : sProp 𝕄))) ⊢ bigSep Finset.univ fun c : Dev nD => (linear c : sProp 𝕄) := by
  rw [toks_eq, bigSep_map, bigSep_map, bigSep_univ_prod]
  refine (sep_mono_right (sep_mono_right (toks_around (F := F)))).trans ?_
  rw [← bigSep_sep', ← bigSep_sep']
  exact bigSep_mono fun c _ => by unfold toksSpent linear; exact BI.Entails.refl _

theorem init :
    iprop((bigSep Finset.univ fun c : Dev nD => dealt m ρ c) ∗ levAts L lv) ⊢ (|={Set.univ}=> bigSep Finset.univ (T₀ m) : sProp 𝕄) := by
  have h1 : (bigSep Finset.univ fun c : Dev nD => dealt m ρ c)
      ⊢ iprop((bigSep Finset.univ fun c : Dev nD => bundle m c) ∗ (bigSep Finset.univ fun c : Dev nD => (semVal (barCell c) 0 : sProp 𝕄))
        ∗ bigSep Finset.univ (G (F := F))) := by
    rw [← bigSep_sep', ← bigSep_sep']
    exact bigSep_mono fun c _ => dealt_core m ρ c
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  iintro ⟨H, -⟩
  ihave H := h1 $$ H
  icases H with ⟨HB, Hv, HG⟩
  ihave Hu := (Entails.of_eq (G_eq (F := F))) $$ HG
  imod (Rounds.fund_launch ER (Rd m) disjoint_cells (fun g _ h => h) talkToks) $$ [Hv Hu] with ⟨%κ, -, #Hinv, #Hr, Hat, Hopen, Htok⟩
  · isplitl [Hv]
    · iapply hv $$ Hv
    · iexact Hu
  imodintro
  iapply (bigSep_with_persistent (R := records m κ) (Φ := fun c => iprop(linear c ∗ bundle m c)) fun c _ => T₀_intro m κ c)
  isplitr
  · unfold records
    isplitr; · iexact Hinv
    iexact Hr
  rw [bigSep_sep']
  isplitr [HB]
  · iapply (linear_of (F := F))
    isplitl [Hat]; · iexact Hat
    isplitl [Hopen] <;> iassumption
  · iexact HB

end Cert.KernelIdeal.Talk
-- ==== Proof.Launch.lean ====
/- The whole run on the eight devices: the labels reshaped, the region, its result reshaped. -/
module

public import proofs.«01_k».proof.Proof.Deal
public import Idealize.ShloMosaic.Lib.Pipeline.ValueKit

@[expose] public section

set_option maxRecDepth 16384

noncomputable section

namespace Cert.KernelIdeal.Talk

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Contents at the end -/

/-- After the last reshape. -/
def V₃ (c : Dev nD) : Valuation τ sig (Elt F) := StableHlo.after hostOps1 (V₂ m c)

theorem outRow_arr (c : Dev nD) : (dat m c).arrAt (2 : Fin 3) cfg0.N = outRow m c := by
  refine (dat m c).arrAt_eq_of_after_last (2 : Fin 3) t0_0 (by decide +kernel) _ fun j => ?_
  blk_simp
  rfl

theorem V₂_arr (c : Dev nD) (w : Fin 3) : V₂ m c (Proc.devRef .tc (Pipeline.arrRef spec0 w)) = (dat m c).arrAt w cfg0.N :=
  Pipeline.afterRegion_arr (dat m c) (V₁ m c) winFacts0.arr_inj w

theorem V₃_off (c : Dev nD) (r : Ref sig .tc) (h : r ≠ main_v3) : V₃ m c (Proc.devRef .tc r) = V₂ m c (Proc.devRef .tc r) := by
  unfold V₃
  rw [StableHlo.after_cons, StableHlo.after_nil, StableHlo.reshape_result_ne main_v2 main_v3 _ _ _ _ _ h]

theorem V₃_arg0 (c : Dev nD) : V₃ m c (Proc.devRef .tc main_arg0) = m ((c : Thread nD τ).loc main_arg0) :=
  (V₃_off m c main_arg0 (by decide)).trans ((V₂_arr m c 0).trans (((dat m c).arrAt_in (0 : Fin 3) rfl _).trans (V_main_arg0 m c)))
theorem V₃_arg1 (c : Dev nD) : V₃ m c (Proc.devRef .tc main_arg1) = m ((c : Thread nD τ).loc main_arg1) :=
  (V₃_off m c main_arg1 (by decide)).trans ((V₂_arg1 m c).trans (V_main_arg1 m c))
theorem V₃_arg2 (c : Dev nD) : V₃ m c (Proc.devRef .tc main_arg2) = m ((c : Thread nD τ).loc main_arg2) :=
  (V₃_off m c main_arg2 (by decide)).trans
    ((Pipeline.afterRegion_of_not_arr (dat m c) (V₁ m c) (by decide : ∀ w : Fin 3, main_arg2 ≠ Pipeline.arrRef spec0 w)).trans (V_main_arg2 m c))
/-- The result: the region's row as a vector. -/
def outV (c : Dev nD) : main_v3.ty.Contents (Elt F) := shapeCast S512 (outRow m c) shapeCasts_S1x512_S512
theorem V₃_out (c : Dev nD) : V₃ m c (Proc.devRef .tc main_v3) = outV m c := by
  unfold V₃
  rw [StableHlo.after_cons, StableHlo.after_nil, StableHlo.reshape_result main_v2 main_v3]
  have h : V₂ m c (Proc.devRef .tc main_v2) = outRow m c := (V₂_arr m c 2).trans (outRow_arr m c)
  rw [h]
  rfl

/-! ## The segments -/

/-- What rides beside the buffers after the region. -/
def R₁ (c : Dev nD) : sProp 𝕄 := iprop(semVal (barCell c) 0 ∗ ow c 0)

def seg0 : Pipeline.HostSeg (Ix := Unit) (Name := ℕ) (U := UU) (Lvl := ℕ) (pcfgs (F := F)) defs₀ 𝒱₀ L lv :=
  Pipeline.HostSeg.ofOps _ _ _ _ _ bufs hostOps0 (fun op h => Pipeline.sub_ucRefs op ((List.forall_iff_forall_mem.mp hostOps0_sub) op h))
    (List.forall_iff_forall_mem.mp hostOps0_fresh) (Vl m) (R₀ m)
def seg1 : Pipeline.HostSeg (Ix := Unit) (Name := ℕ) (U := UU) (Lvl := ℕ) (pcfgs (F := F)) defs₀ 𝒱₀ L lv :=
  Pipeline.HostSeg.ofOps _ _ _ _ _ bufs hostOps1 (fun op h => Pipeline.sub_ucRefs op ((List.forall_iff_forall_mem.mp hostOps1_sub) op h))
    (List.forall_iff_forall_mem.mp hostOps1_fresh) (V₂ m) R₁

def segs : List (Pipeline.Seg (pcfgs (F := F)) adm (pdats m) () defs₀ 𝒱₀ L lv) :=
  [.host (seg0 m), .region (reg m), .host (seg1 m)]

theorem reg_pre (c : Dev nD) : (seg0 m).post c ⊢ (reg m).pre c := by
  show iprop(StableHlo.held (c.tc : Thread nD τ) bufs (V₁ m c) ∗ R₀ m c)
    ⊢ iprop(StableHlo.held (c.tc : Thread nD τ) (arrs (F := F)) (V₁ m c) ∗ (∃ r, prngReg c r)
      ∗ (StableHlo.held (c.tc : Thread nD τ) (Sr (F := F)) (V₁ m c) ∗ emp) ∗ Tk m c ∗ ∃ Wd, owes (c : Thread nD τ) (0 + O₀ c) Wd)
  rw [zero_add]
  have hs := StableHlo.held_sub_split (Ix := Unit) (Name := ℕ) (U := UU) (Lvl := ℕ) (c := (c.tc : Thread nD τ)) (arrs_sub (F := F)) (V₁ m c)
  rw [hs]
  unfold R₀ ow Sr
  iintro ⟨⟨Ha, Hr⟩, HT, Hp, HO⟩
  isplitl [Ha]; · iexact Ha
  isplitl [Hp]; · iexact Hp
  isplitl [Hr]
  · isplitl [Hr]; · iexact Hr
    iempintro
  isplitl [HT] <;> iassumption

theorem reg_post (c : Dev nD) : (reg m).post c ⊢ (seg1 m).pre c := by
  show iprop(StableHlo.held (c.tc : Thread nD τ) (arrs (F := F)) (V₂ m c) ∗ (∃ r, prngReg c r)
      ∗ (StableHlo.held (c.tc : Thread nD τ) (Sr (F := F)) (V₂ m c) ∗ emp) ∗ Yk c ∗ ∃ Wd, owes (c : Thread nD τ) (0 : CellTallies nD τ sig Unit) Wd)
    ⊢ iprop(StableHlo.held (c.tc : Thread nD τ) bufs (V₂ m c) ∗ R₁ c)
  have hs := StableHlo.held_sub_split (Ix := Unit) (Name := ℕ) (U := UU) (Lvl := ℕ) (c := (c.tc : Thread nD τ)) (arrs_sub (F := F)) (V₂ m c)
  rw [hs]
  unfold R₁ Yk ow Sr
  iintro ⟨Ha, -, ⟨Hr, -⟩, Hb, HO⟩
  isplitl [Ha Hr]; · isplitl [Ha] <;> iassumption
  isplitl [Hb] <;> iassumption

abbrev Tₙ (c : Dev nD) : sProp 𝕄 := iprop(StableHlo.held (c : Thread nD τ) bufs (V₃ m c) ∗ semVal (barCell c) 0)

theorem last_post (c : Dev nD) : (seg1 m).post c ⊢ iprop(Tₙ m c ∗ ∃ W, owes (c : Thread nD τ) (0 : CellTallies nD τ sig Unit) W) := by
  show iprop(StableHlo.held (c.tc : Thread nD τ) bufs (V₃ m c) ∗ R₁ c) ⊢ _
  unfold R₁ ow
  iintro ⟨Hh, Hb, HO⟩
  isplitr [HO]
  · isplitl [Hh] <;> iassumption
  · iexact HO

/-! ## The run -/

theorem held_at (c : Dev nD) (W : Valuation τ sig (Elt F)) : (StableHlo.held (c : Thread nD τ) bufs W : sProp 𝕄)
    = iprop((((c : Thread nD τ).loc main_arg0) ↦{fullShare} W (Proc.devRef .tc main_arg0))
      ∗ (((c : Thread nD τ).loc main_arg1) ↦{fullShare} W (Proc.devRef .tc main_arg1))
      ∗ (((c : Thread nD τ).loc main_arg2) ↦{fullShare} W (Proc.devRef .tc main_arg2))
      ∗ (((c : Thread nD τ).loc main_v1) ↦{fullShare} W (Proc.devRef .tc main_v1))
      ∗ (((c : Thread nD τ).loc main_v2) ↦{fullShare} W (Proc.devRef .tc main_v2))
      ∗ (((c : Thread nD τ).loc main_v3) ↦{fullShare} W (Proc.devRef .tc main_v3))) := by
  unfold StableHlo.held
  rw [bigSep_eq_bigSepL_of_eq [Proc.devRef .tc main_arg0, Proc.devRef .tc main_arg1, Proc.devRef .tc main_arg2, Proc.devRef .tc main_v1,
    Proc.devRef .tc main_v2, Proc.devRef .tc main_v3] (by decide) (by decide)]
  rfl

theorem unscoped_bar : ∀ sm : SemLoc sig, sm.isScoped .tc = false → sm = .reg barS := by decide

/-- What a device's buffers hold at the end, for an observer of the final state. -/
def Ended (c : Dev nD) (s : MemSt nD τ sig (Elt F)) : Prop :=
  s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_v3) = outV m c

set_option backward.isDefEq.respectTransparency.types false in
/-- From any memory with zero counters the eight devices' run terminates; it leaves the arguments as they were, the result of
    device `c` at `outV m c`, and every counter at zero. -/
theorem run_main : θ_run defs (onTc (τ := τ) (main (F := F))) ⟨m, fun _ => 0, ρ⟩
    (fun r => (∀ c : Dev nD, Ended m c r.2) ∧ r.2.sem = fun _ => 0) :=
  Pipeline.θ_run_regions_kit_sems (pcfgs (F := F)) adm (pdats m) () cellOf_inj EP defs₀ 𝒱₀ L lv m ρ main (segs m)
    (fun c Q => by rw [main_segs adm (pdats m) () 𝒱₀ L lv (seg0 m) (seg1 m) (reg m) rfl rfl c]; rfl)
    (by simp only [segs, Pipeline.Seg.pipes_host, Pipeline.Seg.pipes_region, Pipeline.Seg.pipes_nil]; decide)
    (O₀ := O₀) (hL := L_of_ne) (G := G) (u₀ := u₀)
    (hu₀ := by
      unfold u₀
      iintro Hu
      ihave H := (ownU_pair _ _) $$ Hu
      icases H with ⟨HP, HX⟩
      imodintro
      isplitl [HP]; · iexact HP
      rw [G_eq]; iexact HX)
    (T₀ := T₀ m) (Tₙ := Tₙ m)
    (hch := ⟨fun c => .rfl, fun c => reg_pre m c, fun c => reg_post m c, fun c => last_post m c⟩)
    (hinit := init m ρ)
    (QY := fun c s => Ended m c s ∧ s.sem (barCell c) = 0)
    (hfin := fun c s' => by
      dsimp only [Tₙ]; rw [held_at]
      iintro ⟨⟨⟨H0, H1, H2, -, -, H3⟩, Hb⟩, HSI⟩
      icombine HSI H0 gives %h0
      icombine HSI H1 gives %h1
      icombine HSI H2 gives %h2
      icombine HSI H3 gives %h3
      icombine HSI Hb gives %hb
      imodintro
      isplitr
      · ipureintro
        exact ⟨⟨(Buf.eq_of_forall_mem_univ h0).trans (V₃_arg0 m c), (Buf.eq_of_forall_mem_univ h1).trans (V₃_arg1 m c),
          (Buf.eq_of_forall_mem_univ h2).trans (V₃_arg2 m c), (Buf.eq_of_forall_mem_univ h3).trans (V₃_out m c)⟩, by simpa using hb⟩
      iexact HSI)
    (hQ := fun s h hs => ⟨fun c => (h c).1, sem_eq_zero hs fun c sm hsm => by
      obtain rfl := unscoped_bar sm hsm
      exact (h c).2⟩)

end Cert.KernelIdeal.Talk
-- ==== Proof.Frames.lean ====
/- The frames of the three programs: each run terminates, leaves its arguments as they were and every counter at zero. -/
module

public import proofs.«01_k».proof.Defs
public import proofs.«01_k».proof.Proof.Launch
public import proofs.«01_k».proof.Proof.Gen.Kernel
public import proofs.«01_k».proof.Proof.Gen.ReferenceIdeal.Run
public import Idealize.ShloMosaic.Lib.Quiescent

@[expose] public section

set_option maxRecDepth 100000

noncomputable section

namespace Cert.Proof

open Idealize.ShloMosaic Idealize.SL.Sem

open Cert.KernelIdeal in
/-- The run with the result dropped. -/
theorem framed {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0) :=
  (θ_run defs _ _).mono (fun _ h => ⟨fun c => ⟨(h.1 c).1, (h.1 c).2.1, (h.1 c).2.2.1⟩, h.2⟩) (Talk.run_main m ρ)

/-- The two kernel programs have one text, so at machine words they have one kernel body. -/
theorem body_same : @Cert.Kernel.cc0_body Bits _ _ = @Cert.KernelIdeal.cc0_body Bits _ _ := rfl

/-- They have one definition under each label. -/
theorem labels_same : Cert.Kernel.defs₀ (F := Bits) = Cert.KernelIdeal.defs₀ (F := Bits) := by
  unfold Cert.Kernel.defs₀ Cert.KernelIdeal.defs₀
  refine congrArg Defs.onTc (funext fun k => funext fun a => ?_)
  match k, a with
  | ⟨0, _⟩, (t, s) =>
    exact congrFun (congrFun (congrFun (congrFun (congrFun (congrFun (congrFun (congrFun (congrFun (congrFun (congrFun (congrFun (congrFun (congrFun (congrFun (congrFun (congrFun body_same _) _) _) _) _) _) _) _) _) _) _) _) _) _) _) _) _

theorem defs_same : Cert.Kernel.defs (F := Bits) = Cert.KernelIdeal.defs (F := Bits) :=
  congrArg (Pipeline.defs _) labels_same

/-- The kernel at machine words: the run of its ideal text, which is the same text, read at words. -/
theorem frame_kernel : Cert.quiescent_Kernel (hKernel := Cert.Kernel.Gen.facts) := fun m ρ _ => by
  rw [defs_same]
  exact framed (F := Bits) m ρ

theorem frame_kernelIdeal : Cert.quiescent_KernelIdeal (hKernelIdeal := Cert.KernelIdeal.Gen.facts) := fun m ρ _ =>
  framed (F := Ideal) m ρ

theorem frame_referenceIdeal : Cert.quiescent_ReferenceIdeal (hReferenceIdeal := Cert.ReferenceIdeal.Gen.facts) := fun m ρ _ =>
  (θ_run Cert.ReferenceIdeal.defs _ _).mono
    (fun _ h => ⟨fun c => ⟨(h c).2.1, (h c).2.2.1, (h c).2.2.2⟩, sem_eq_zero_of_no_sems (by decide) _⟩)
    (Cert.ReferenceIdeal.Value.run (F := Ideal) m ρ)

end Cert.Proof

end
-- ==== Proof.Rows.lean ====
/- What the kernel's payloads and loads are at an index, over the extended reals: a logit is a product's entry, a row of sums is a
   sum of exponentials, a row of label logits is a sum with one entry selected. -/
module

public import proofs.«01_k».proof.Proof.Launch
public import Idealize.ShloMosaic.Lib.Pointwise
public import Idealize.ShloMosaic.Lib.Pointwise.IndexBridge

@[expose] public section

set_option maxRecDepth 16384

noncomputable section

namespace Cert.KernelIdeal.Talk

open Cert.KernelIdeal.Gen
open Idealize.ShloMosaic Idealize.ShloMosaic.TcCoe

theorem pay6_apply (x : FVec Ideal S512x1024 .f32) (ch : FVec Ideal S1x1024x1024 .f32) (v : Fin 1024) (t : Fin 512) :
    k0_pay6 x ch (ix2 v t) = ∑ d : Fin 1024, ch (ix3 0 d v) * x (ix2 t d) := by
  pointwise [k0_pay6]
theorem pay7_apply (x : FVec Ideal S512x1024 .f32) (ch : FVec Ideal S1x1024x1024 .f32) (t : Fin 512) :
    k0_pay7 x ch (ix2 0 t) = ∑ v : Fin 1024, Ideal.exp (k0_pay6 x ch (ix2 v t)) := by
  pointwise [k0_pay7, k0_pay5]
theorem pay10_apply (x : FVec Ideal S512x1024 .f32) (s : FVec Ideal S1x512 .f32) (ch : FVec Ideal S1x1024x1024 .f32) (t : Fin 512) :
    k0_pay10 x k0_pay5 s ch (ix2 0 t) = s (ix2 0 t) + ∑ v : Fin 1024, Ideal.exp (k0_pay6 x ch (ix2 v t)) := by
  pointwise [k0_pay10, k0_pay5, k0_pay9, k0_pay6]
/-- A selection by equality of words. -/
theorem sel_eq {α : Type} (a b : BitVec 32) (x y : α) : Scalar.select (IntOp.cmpi .eq a b) x y = if a = b then x else y := by
  by_cases h : a = b
  · subst h; simp [Scalar.select, IntOp.cmpi]
  · have e : (a == b) = false := by simpa using h
    simp [Scalar.select, IntOp.cmpi, e, h]

theorem pay8_apply (o : BitVec 32) (x : FVec Ideal S512x1024 .f32) (l : IVec S1x512 32) (ch : FVec Ideal S1x1024x1024 .f32) (t : Fin 512) :
    k0_pay8 o x l ch (ix2 0 t) = ∑ v : Fin 1024, if BitVec.ofNat 32 v.val = l (ix2 0 t) - o then k0_pay6 x ch (ix2 v t) else 0 := by
  pointwise [k0_pay8, k0_pay5, k0_pay4]
  simp only [sel_eq, IntOp.subi, BitVec.sub_zero]
theorem pay11_apply (o : BitVec 32) (x : FVec Ideal S512x1024 .f32) (l : IVec S1x512 32) (s : FVec Ideal S1x512 .f32)
    (ch : FVec Ideal S1x1024x1024 .f32) (t : Fin 512) :
    k0_pay11 x (k0_pay4 o l) (iota .tc S1024x512 32 [0] iota_S1024x512_d0_w32) k0_pay5 s ch (ix2 0 t)
      = s (ix2 0 t) + ∑ v : Fin 1024, if BitVec.ofNat 32 v.val = l (ix2 0 t) - o - 1024#32 then k0_pay6 x ch (ix2 v t) else 0 := by
  pointwise [k0_pay11, k0_pay5, k0_pay4, k0_pay9, k0_pay6]
  simp only [sel_eq, IntOp.subi]

variable (m : (ℓ : Loc nD τ sig) → Buf (Elt Ideal) ℓ)

theorem ch0_apply (c : Dev nD) (d v : Fin 1024) : ch0 m c (ix3 0 d v) = WB m c (ix3 0 d v) := by
  refine congrArg (WB m c) (funext fun a => Fin.ext ?_)
  match a with
  | ⟨0, _⟩ => rfl
  | ⟨1, _⟩ => show 0 + 1 * d.val = d.val; omega
  | ⟨2, _⟩ => show 0 + 1 * v.val = v.val; omega
theorem ch1_apply (c : Dev nD) (d v : Fin 1024) : ch1 m c (ix3 0 d v) = WB m c (ix3 1 d v) := by
  refine congrArg (WB m c) (funext fun a => Fin.ext ?_)
  match a with
  | ⟨0, _⟩ => rfl
  | ⟨1, _⟩ => show 0 + 1 * d.val = d.val; omega
  | ⟨2, _⟩ => show 0 + 1 * v.val = v.val; omega

theorem xstg_eq (c : Dev nD) : xstg m c = m ((c : Thread nD τ).loc main_arg0) := by
  funext j
  unfold xstg
  blk_simp
  rw [V_main_arg0]
  refine congrArg (m ((c : Thread nD τ).loc main_arg0)) (funext fun a => Fin.ext ?_)
  match a with
  | ⟨0, _⟩ => show 0 + 1 * (j 0).val = (j 0).val; omega
  | ⟨1, _⟩ => show 0 + 1 * (j 1).val = (j 1).val; omega
theorem lab_eq (c : Dev nD) : V m c main_v1 = shapeCast S1x512 (show IVec S512 32 from m ((c : Thread nD τ).loc main_arg2)) shapeCasts_S512_S1x512 := by
  unfold V V0
  after_results_simp <;> rfl
theorem lstg_apply (c : Dev nD) (t : Fin 512) : lstg m c (ix2 0 t) = m ((c : Thread nD τ).loc main_arg2) (ix1 t) := by
  unfold lstg
  blk_simp
  rw [lab_eq, show (win0_1.blk (0 : Fin 1)).view.emb (ix2 0 t) = ix2 0 t from funext fun a => Fin.ext (by
    match a with
    | ⟨0, _⟩ => rfl
    | ⟨1, _⟩ => show 0 + 1 * t.val = t.val; omega)]
  pointwise
theorem xin_apply (c : Dev nD) (t : Fin 512) (d : Fin 1024) : xin m c (ix2 t d) = m ((c : Thread nD τ).loc main_arg0) (ix2 t d) := by
  pointwise [xin, k0_pay2]
  rw [← xstg_eq m c]
  refine congrArg (xstg m c) (funext fun a => Fin.ext ?_)
  match a with
  | ⟨0, _⟩ => show 0 + 1 * t.val = t.val; omega
  | ⟨1, _⟩ => show 0 + 1 * d.val = d.val; omega
theorem lin_apply (c : Dev nD) (t : Fin 512) :
    lin m c (ix2 0 t) = (show BitVec 32 from m ((c : Thread nD τ).loc main_arg2) (ix1 t)) - yW c * 8192#32 := by
  pointwise [lin, k0_pay3]
  show _ - _ = _
  refine congrArg (· - yW c * 8192#32) ?_
  rw [← lstg_apply m c t]
  refine congrArg (lstg m c) (funext fun a => Fin.ext ?_)
  match a with
  | ⟨0, _⟩ => rfl
  | ⟨1, _⟩ => show 0 + 1 * t.val = t.val; omega

/-! ## The rows of one device -/

/-- The logit of token `t` at column `1024 * k + v` of the device's quarter. -/
def lgt (c : Dev nD) (k : Fin 2) (v : Fin 1024) (t : Fin 512) : EReal :=
  ∑ d : Fin 1024, (show EReal from WB m c (ix3 k d v)) * (show EReal from m ((c : Thread nD τ).loc main_arg0) (ix2 t d))

/-- The label of token `t`, as the device holds it. -/
abbrev lab (c : Dev nD) (t : Fin 512) : BitVec 32 := m ((c : Thread nD τ).loc main_arg2) (ix1 t)

theorem pay6_ch0 (c : Dev nD) (v : Fin 1024) (t : Fin 512) : k0_pay6 (xin m c) (ch0 m c) (ix2 v t) = lgt m c 0 v t := by
  rw [pay6_apply]
  exact Finset.sum_congr rfl fun d _ => by rw [ch0_apply, xin_apply]
theorem pay6_ch1 (c : Dev nD) (v : Fin 1024) (t : Fin 512) : k0_pay6 (xin m c) (ch1 m c) (ix2 v t) = lgt m c 1 v t := by
  rw [pay6_apply]
  exact Finset.sum_congr rfl fun d _ => by rw [ch1_apply, xin_apply]

theorem sOwn_apply (c : Dev nD) (t : Fin 512) :
    sOwn m c (ix2 0 t) = (∑ v : Fin 1024, Ideal.exp (lgt m c 0 v t)) + ∑ v : Fin 1024, Ideal.exp (lgt m c 1 v t) := by
  unfold sOwn
  rw [pay10_apply, pay7_apply]
  simp only [pay6_ch0, pay6_ch1]

theorem lOwn_apply (c : Dev nD) (t : Fin 512) :
    lOwn m c (ix2 0 t)
      = (∑ v : Fin 1024, if BitVec.ofNat 32 v.val = lab m c t - yW c * 8192#32 - offW c then lgt m c 0 v t else 0)
        + ∑ v : Fin 1024, if BitVec.ofNat 32 v.val = lab m c t - yW c * 8192#32 - offW c - 1024#32 then lgt m c 1 v t else 0 := by
  unfold lOwn
  rw [pay11_apply, pay8_apply]
  simp only [pay6_ch0, pay6_ch1, lin_apply]

/-! ## The sums over the devices -/

theorem sRow_apply (c : Dev nD) (t : Fin 512) : sRow m c (ix2 0 t) = sOwn m c (ix2 0 t) := by
  pointwise [sRow, k0_pay12, sOwn]
theorem lRow_apply (c : Dev nD) (t : Fin 512) : lRow m c (ix2 0 t) = lOwn m c (ix2 0 t) := by
  pointwise [lRow, k0_pay13]

/-- A load of row `r` of slot `d` reads row `r` of what device `d` sent. -/
theorem read_slot (d : Dev nD) (r : Fin 8) {o : Fin 3 → ℕ} (e : o = ![d.val, r.val, 0])
    (h : ∀ a, o a + S1x1x512.size a ≤ S8x8x512.size a) (t : Fin 512) :
    (Memref.whole cc0_scratch2).view.readAt (Elt Ideal) (Rect.unit (s := S8x8x512) o S1x1x512.size h).toLoadRect (RB m) (ix3 0 0 t)
      = SB m d (ix2 r t) := by
  subst e
  have key : (Rect.unit (s := S8x8x512) ![d.val, r.val, 0] S1x1x512.size h).toLoadRect.idx (ix3 0 0 t) = ix3 d r t := funext fun a => Fin.ext (by
    match a with
    | ⟨0, _⟩ => show d.val + 1 * 0 = d.val; omega
    | ⟨1, _⟩ => show r.val + 1 * 0 = r.val; omega
    | ⟨2, _⟩ => show 0 + 1 * t.val = t.val; omega)
  exact congrArg (RB m) key

theorem rdS_apply (c : Dev nD) (j : Fin 7) (t : Fin 512) : rdS m c j (ix3 0 0 t) = sOwn m (pr c (6 - j)) (ix2 0 t) := by
  rw [← sRow_apply]
  exact read_slot m (pr c (6 - j)) 0 (off7_eq c j) _ t
theorem rdL_apply (c : Dev nD) (j : Fin 7) (t : Fin 512) : rdL m c j (ix3 0 0 t) = lOwn m (pr c (6 - j)) (ix2 0 t) := by
  rw [← lRow_apply]
  exact read_slot m (pr c (6 - j)) 1 (off8_eq c j) _ t

/-- A device's own term and the seven that it receives are the sum over all devices. -/
theorem sum_devices (c : Dev nD) (f : Dev nD → EReal) :
    f c + f (pr c 6) + f (pr c 5) + f (pr c 4) + f (pr c 3) + f (pr c 2) + f (pr c 1) + f (pr c 0) = ∑ e, f e := by
  rw [← Finset.add_sum_erase Finset.univ f (Finset.mem_univ c), others_eq, List.sum_toFinset _ (others_nodup c)]
  simp only [List.map_cons, List.map_nil, List.sum_cons, List.sum_nil]
  abel

theorem sAll_apply (c : Dev nD) (t : Fin 512) : sAll m c (ix2 0 t) = ∑ e : Dev nD, sOwn m e (ix2 0 t) := by
  rw [← sum_devices c]
  pointwise [sAll, k0_pay20, k0_pay18, k0_pay16, k0_pay14, rdS_apply]
  rfl
theorem lAll_apply (c : Dev nD) (t : Fin 512) : lAll m c (ix2 0 t) = ∑ e : Dev nD, lOwn m e (ix2 0 t) := by
  rw [← sum_devices c]
  pointwise [lAll, k0_pay21, k0_pay19, k0_pay17, k0_pay15, rdL_apply]
  rfl

/-- The result at token `t`: the logarithm of the sum of all devices' exponentials, less the sum of all devices' label logits. -/
theorem outV_apply (c : Dev nD) (t : Fin 512) :
    outV m c (ix1 t) = Ideal.log (∑ e : Dev nD, sOwn m e (ix2 0 t)) - ∑ e : Dev nD, lOwn m e (ix2 0 t) := by
  rw [← sAll_apply m c t, ← lAll_apply m c t]
  pointwise [outV, outRow, k0_pay1]

end Cert.KernelIdeal.Talk

end
-- ==== Proof.Columns.lean ====
/- The devices' quarters are the columns of the whole weight matrix: the kernel's result in terms of the whole arrays. -/
module

public import proofs.«01_k».proof.Proof.Rows
public import Idealize.ShloMosaic.Lib.Layout
public import Mathlib.Data.BitVec

@[expose] public section

set_option maxRecDepth 16384

noncomputable section

namespace Cert.KernelIdeal.Talk

open Cert.KernelIdeal.Gen
open Idealize.ShloMosaic Idealize.ShloMosaic.TcCoe

/-- The whole weight matrix's shape. -/
abbrev SW : Shape := ⟨2, ![1024, 16384]⟩

/-- The mesh cuts the columns in two. -/
theorem tiles : Layout.TilesN S1024x8192 SW (fun b => Layout.cutSize [2, 2, 2] ((![[], [1]] : Fin 2 → List Nat) b)) := by decide

/-- The block of the whole weight matrix that device `c` holds. -/
def block {α : Type} (w : SW.Idx → α) (c : Dev nD) : S1024x8192.Idx → α :=
  Layout.blockN S1024x8192 SW (Layout.meshBlock [2, 2, 2] ![[], [1]] c) w tiles

/-- The logit of token `t` at column `j` of the whole matrix. -/
def logit (x : FVec Ideal S512x1024 .f32) (w : FVec Ideal SW .f32) (t : Fin 512) (j : Fin 16384) : EReal :=
  ∑ d : Fin 1024, (show EReal from x (ix2 t d)) * (show EReal from w (ix2 d j))

/-- The number of chunk `k` of device `c` among the sixteen chunks of 1024 columns. -/
def chunk (c : Dev nD) (k : Fin 2) : Fin 16 :=
  ⟨8 * (c.val / 2 % 2) + 4 * (c.val % 2) + 2 * (c.val / 4) + k.val, by revert c k; decide⟩

/-- Column `v` of chunk `b`. -/
def col (b : Fin 16) (v : Fin 1024) : Fin 16384 := ⟨1024 * b.val + v.val, by have := b.isLt; have := v.isLt; omega⟩

/-- A sum over chunks and their columns is a sum over all columns. -/
theorem sum_col (f : Fin 16384 → EReal) : ∑ b : Fin 16, ∑ v : Fin 1024, f (col b v) = ∑ j, f j := by
  rw [← Fintype.sum_prod_type']
  refine Fintype.sum_equiv (finProdFinEquiv (m := 16) (n := 1024)) _ _ fun p => congrArg f (Fin.ext ?_)
  show 1024 * p.1.val + p.2.val = p.2.val + 1024 * p.1.val
  omega

/-- The sixteen chunks are dealt to the eight devices, two to each. -/
theorem sum_chunk (g : Fin 16 → EReal) : ∑ c : Dev nD, (g (chunk c 0) + g (chunk c 1)) = ∑ b, g b := by
  have h : ∑ p : Dev nD × Fin 2, g (chunk p.1 p.2) = ∑ b, g b :=
    Fintype.sum_bijective (fun p : Dev nD × Fin 2 => chunk p.1 p.2) (by decide +kernel) _ _ fun _ => rfl
  rw [← h, Fintype.sum_prod_type]
  exact Finset.sum_congr rfl fun c _ => (Fin.sum_univ_two fun k => g (chunk c k)).symm

theorem sum_all (f : Fin 16384 → EReal) :
    ∑ c : Dev nD, ((∑ v : Fin 1024, f (col (chunk c 0) v)) + ∑ v : Fin 1024, f (col (chunk c 1) v)) = ∑ j, f j :=
  (sum_chunk fun b => ∑ v, f (col b v)).trans (sum_col f)

/-- A device's test for the label, moved to the whole matrix. -/
theorem at_label (c : Dev nD) (k : Fin 2) (v : Fin 1024) (l : BitVec 32) :
    BitVec.ofNat 32 v.val = l - yW c * 8192#32 - offW c - BitVec.ofNat 32 (1024 * k.val) ↔ (col (chunk c k) v).val = l.toNat := by
  have e : BitVec.ofNat 32 (1024 * (chunk c k).val) = BitVec.ofNat 32 (1024 * k.val) + offW c + yW c * 8192#32 := by
    revert c k; decide +kernel
  have hv : BitVec.ofNat 32 (col (chunk c k) v).val = BitVec.ofNat 32 (1024 * (chunk c k).val) + BitVec.ofNat 32 v.val :=
    BitVec.ofNat_add ..
  have hlt : (col (chunk c k) v).val < 2 ^ 32 := lt_trans (col (chunk c k) v).isLt (by norm_num)
  have h1 : (BitVec.ofNat 32 v.val = l - yW c * 8192#32 - offW c - BitVec.ofNat 32 (1024 * k.val))
      ↔ BitVec.ofNat 32 (col (chunk c k) v).val = l := by
    rw [hv, e, eq_sub_iff_add_eq, eq_sub_iff_add_eq, eq_sub_iff_add_eq]
    constructor <;> intro h <;> rw [← h] <;> ring
  rw [h1]
  constructor
  · intro h
    rw [← h, BitVec.toNat_ofNat, Nat.mod_eq_of_lt hlt]
  · intro h
    rw [h, BitVec.ofNat_toNat, BitVec.setWidth_eq]

section Whole

variable (m : (ℓ : Loc nD τ sig) → Buf (Elt Ideal) ℓ)
variable (x : FVec Ideal S512x1024 .f32) (w : FVec Ideal SW .f32) (l : IVec S512 32)
  (hx : ∀ c : Dev nD, m ((c : Thread nD τ).loc main_arg0) = x)
  (hw : ∀ c : Dev nD, m ((c : Thread nD τ).loc main_arg1) = block w c)
  (hl : ∀ c : Dev nD, m ((c : Thread nD τ).loc main_arg2) = l)

include hw in
theorem WB_whole (c : Dev nD) (k : Fin 2) (d v : Fin 1024) : WB m c (ix3 k d v) = w (ix2 d (col (chunk c k) v)) := by
  unfold WB
  rw [V_main_arg1, hw, block, Layout.blockN_apply]
  refine congrArg w (funext fun a => Fin.ext ?_)
  match a with
  | ⟨0, _⟩ =>
    rw [Layout.TilesN.idx_val]
    show 0 * 1024 + d.val = d.val
    omega
  | ⟨1, _⟩ =>
    rw [Layout.TilesN.idx_val]
    have e : ((Layout.meshBlock [2, 2, 2] ![[], [1]] c : (b : Fin 2) → Fin _) 1).val = c.val / 2 % 2 := by revert c; decide +kernel
    show ((Layout.meshBlock [2, 2, 2] ![[], [1]] c : (b : Fin 2) → Fin _) 1).val * 8192 + (4096 * (c.val % 2) + 2048 * (c.val / 4) + 1024 * k.val + v.val) = 1024 * (8 * (c.val / 2 % 2) + 4 * (c.val % 2) + 2 * (c.val / 4) + k.val) + v.val
    rw [e]
    omega

include hx hw in
theorem lgt_whole (c : Dev nD) (k : Fin 2) (v : Fin 1024) (t : Fin 512) : lgt m c k v t = logit x w t (col (chunk c k) v) := by
  unfold lgt logit
  refine Finset.sum_congr rfl fun d _ => ?_
  rw [WB_whole m w hw, hx]
  exact mul_comm _ _

include hx hw in
theorem sOwn_whole (t : Fin 512) : ∑ c : Dev nD, sOwn m c (ix2 0 t) = ∑ j, Ideal.exp (logit x w t j) := by
  rw [← sum_all]
  refine Finset.sum_congr rfl fun c _ => ?_
  rw [sOwn_apply]
  simp only [lgt_whole m x w hx hw]

include hx hw hl in
theorem lOwn_whole (t : Fin 512) (j : Fin 16384) (hj : (l (ix1 t)).toNat = j.val) : ∑ c : Dev nD, lOwn m c (ix2 0 t) = logit x w t j := by
  have h : ∑ i, (if i = j then logit x w t i else 0) = logit x w t j := by
    rw [Finset.sum_ite_eq' Finset.univ j, if_pos (Finset.mem_univ j)]
  rw [← h, ← sum_all]
  refine Finset.sum_congr rfl fun c _ => ?_
  have hlab : lab m c t = l (ix1 t) := congrFun (hl c) (ix1 t)
  have h0 := fun v : Fin 1024 => at_label c 0 v (l (ix1 t))
  have h1 := fun v : Fin 1024 => at_label c 1 v (l (ix1 t))
  rw [lOwn_apply, hlab]
  refine congrArg₂ (· + ·) (Finset.sum_congr rfl fun v _ => ?_) (Finset.sum_congr rfl fun v _ => ?_)
  · rw [lgt_whole m x w hx hw]
    refine if_congr (Iff.trans ?_ ((h0 v).trans (by rw [hj, Fin.ext_iff]))) rfl rfl
    rw [show BitVec.ofNat 32 (1024 * (0 : Fin 2).val) = 0#32 from rfl, BitVec.sub_zero]
  · rw [lgt_whole m x w hx hw]
    exact if_congr ((h1 v).trans (by rw [hj, Fin.ext_iff])) rfl rfl

include hx hw hl in
/-- The kernel's result at token `t`, on every device. -/
theorem outV_whole (c : Dev nD) (t : Fin 512) (j : Fin 16384) (hj : (l (ix1 t)).toNat = j.val) :
    outV m c (ix1 t) = Ideal.log (∑ i, Ideal.exp (logit x w t i)) - logit x w t j := by
  rw [outV_apply, sOwn_whole m x w hx hw, lOwn_whole m x w l hx hw hl t j hj]

end Whole

end Cert.KernelIdeal.Talk

end
-- ==== Proof.Expected.lean ====
/- The reference's result at a token, over the extended reals. -/
module

public import proofs.«01_k».proof.Proof.Gen.ReferenceIdeal.Run
public import Idealize.ShloMosaic.Lib.Pointwise
public import Idealize.ShloMosaic.Lib.Pointwise.IndexBridge
public import Idealize.ShloMosaic.Lib.StableHlo.Predicate

@[expose] public section

set_option maxRecDepth 16384

noncomputable section

namespace Cert.ReferenceIdeal.Expected

open Cert.ReferenceIdeal.Gen
open Idealize.ShloMosaic

variable (x : FVec Ideal S512x1024 .f32) (w : FVec Ideal S1024x16384 .f32) (l : IVec S512 32)

/-- The logits. -/
def dot : FVec Ideal S512x16384 .f32 := Host.dotGeneral dot_S512x1024_S1024x16384_S512x16384_1_0_0_1_n_n none x w

/-- The greatest logit of a token. -/
def top : FVec Ideal S512 .f32 := Host.reduce FloatOps.maximumf (dot x w) (constant S_ .f32 0xFF800000#32) reducesTo_S512x16384_S512_d1 h_S_

/-- The sum of the exponentials of the logits less the greatest. -/
def sums : FVec Ideal S512 .f32 :=
  Host.reduceAdd (Host.exp (subf (dot x w) (broadcastInDim S512x16384 ![0, 1] bcast_S512x1_S512x16384_0_1 (broadcastInDim S512x1 ![0] bcast_S512_S512x1_0 (top x w)))))
    (constant S_ .f32 0x00000000#32) reducesTo_S512x16384_S512_d1 h_S_

/-- The pairs of a token and its column. -/
def pairs : IVec S512x2 32 :=
  concatenate S512x2 1 [⟨S512x1, (broadcastInDim S512x1 ![0] bcast_S512_S512x1_0 (select (cmpi .slt (iotaInDim S512 32 0) (broadcastInDim S512 ![] bcast_S_S512 (constantI S_ 32 0#32))) (addi (iotaInDim S512 32 0) (broadcastInDim S512 ![] bcast_S_S512 (constantI S_ 32 512#32))) (iotaInDim S512 32 0)))⟩,
    ⟨S512x1, (broadcastInDim S512x1 ![0] bcast_S512_S512x1_0 (select (cmpi .slt l (broadcastInDim S512 ![] bcast_S_S512 (constantI S_ 32 0#32))) (addi l (broadcastInDim S512 ![] bcast_S_S512 (constantI S_ 32 16384#32))) l))⟩] concatenates_S512x1_S512x1_S512x2_d1

/-- The logit at the label. -/
def taken : FVec Ideal S512 .f32 := Host.gather gather_S512x16384_S512x2_S512_n_01_n_n_01_1_11 (dot x w) (pairs l)

/-- The reference's result. -/
def out : FVec Ideal S512 .f32 :=
  subf (shapeCast _ (addf (broadcastInDim S512x1 ![0] bcast_S512_S512x1_0 (top x w)) (Host.log (broadcastInDim S512x1 ![0] bcast_S512_S512x1_0 (sums x w)))) shapeCasts_S512x1_S512) (taken x w l)

/-- A logit is the product of a row and a column. -/
theorem dot_apply (t : Fin 512) (j : Fin 16384) : dot x w (ix2 t j) = ∑ d : Fin 1024, x (ix2 t d) * w (ix2 d j) := by
  pointwise [dot]

/-- The greatest logit is the maximum over the columns, from below everything. -/
theorem top_apply (t : Fin 512) : top x w (ix1 t) = Finset.univ.fold max ⊥ fun j => dot x w (ix2 t j) := by
  pointwise [top]
  rw [show Ideal.ofBits .f32 0xFF800000#32 = ⊥ by simp [Ideal.ofBits, Ideal.ieee]]

/-- The sum of exponentials, over the columns. -/
theorem sums_apply (t : Fin 512) : sums x w (ix1 t) = ∑ j : Fin 16384, Ideal.exp (dot x w (ix2 t j) - top x w (ix1 t)) := by
  pointwise [sums]

/-- The last operations of the program, at a token. -/
theorem last_apply (a b g : FVec Ideal S512 .f32) (t : Fin 512) :
    subf (shapeCast S512 (addf (broadcastInDim S512x1 ![0] bcast_S512_S512x1_0 a) (Host.log (broadcastInDim S512x1 ![0] bcast_S512_S512x1_0 b))) shapeCasts_S512x1_S512) g (ix1 t)
      = a (ix1 t) + Ideal.log (b (ix1 t)) - g (ix1 t) := by
  pointwise

/-- The reference's result from its parts. -/
theorem out_apply (t : Fin 512) : out x w l (ix1 t) = top x w (ix1 t) + Ideal.log (sums x w (ix1 t)) - taken x w l (ix1 t) :=
  last_apply _ _ _ t

/-- A word that is not negative is taken as it is. -/
theorem wrap (b n : BitVec 32) (h : b.toNat < 2 ^ 31) : Scalar.select (IntOp.cmpi .slt b 0#32) (IntOp.addi b n) b = b := by
  have e : IntOp.cmpi .slt b 0#32 ≠ 1#1 := by
    rw [Ne, StableHlo.Predicate.slt_iff_toNat h (by decide)]
    simp
  simp [Scalar.select, e]

/-- A pair begins with its token. -/
theorem pairs_0 (t : Fin 512) : pairs l (ix2 t 0) = BitVec.ofNat 32 t.val := by
  pointwise [pairs]
  have h := t.isLt
  exact wrap _ _ (by rw [BitVec.toNat_ofNat]; omega)

/-- A pair ends with the column its label names. -/
theorem pairs_1 (t : Fin 512) (h : (l (ix1 t)).toNat < 16384) : pairs l (ix2 t 1) = l (ix1 t) := by
  pointwise [pairs]
  exact wrap _ _ (by omega)

/-- The gather's numbers: both axes of the logits start where the pair says. -/
abbrev pick := gather_S512x16384_S512x2_S512_n_01_n_n_01_1_11

/-- No axis of the logits is batched. -/
theorem pick_batch (i : S512.Idx) (a : Fin 2) : pick.batchCoord i a = 0 := pick.batchCoord_eq_zero i a List.not_mem_nil

/-- No axis of the logits is kept. -/
theorem pick_off (i : S512.Idx) (a : Fin 2) : pick.offCoord i a = 0 :=
  pick.offCoord_eq_zero i a (by rw [GatherDims.mem_sKept]; intro h; exact h.1 (by show a ∈ [0, 1]; fin_cases a <;> simp))

/-- Coordinate `k` of a token's start is entry `k` of its pair. -/
theorem pick_at (t : Fin 512) (k : Fin 2) : pick.siIdx (ix1 t) k = ix2 t k := by
  funext b
  match b with
  | ⟨0, _⟩ => rfl
  | ⟨1, _⟩ => rfl

/-- A start is the pair, clamped to the axis. -/
theorem pick_start (t : Fin 512) (idx : IVec S512x2 32) (a : Fin 2) :
    pick.start (ix1 t) idx a = min (idx (ix2 t a)).toInt.toNat (S512x16384.size a - 1) := by
  have hm : a ∈ pick.startIndexMap := by show a ∈ [0, 1]; fin_cases a <;> simp
  have hs : pick.sliceSizes a = 1 := by show (![1, 1] : Fin 2 → Nat) a = 1; fin_cases a <;> rfl
  have hi : (⟨pick.startIndexMap.idxOf a, List.idxOf_lt_length_iff.2 hm⟩ : Fin pick.startIndexMap.length) = (a : Fin 2) := by
    fin_cases a <;> rfl
  unfold GatherDims.start
  rw [dif_pos hm, hs, hi, pick_at]

/-- The gather takes the logit at the label. -/
theorem taken_apply (t : Fin 512) (j : Fin 16384) (h : (l (ix1 t)).toNat = j.val) : taken x w l (ix1 t) = dot x w (ix2 t j) := by
  unfold taken Host.gather
  refine congrArg (dot x w) (funext fun a => Fin.ext ?_)
  have hj := j.isLt
  have ht := t.isLt
  have e : (pick.operandIdx (ix1 t) (pairs l) a).val = min (pairs l (ix2 t a)).toInt.toNat (S512x16384.size a - 1) := by
    unfold GatherDims.operandIdx
    show pick.start _ _ a + pick.batchCoord _ a + pick.offCoord _ a = _
    rw [pick_batch, pick_off, pick_start, Nat.add_zero]
  refine e.trans ?_
  match a with
  | ⟨0, _⟩ =>
    have q : (pairs l (ix2 t 0)).toInt.toNat = t.val := by
      rw [pairs_0, StableHlo.Predicate.toInt_eq_toNat_of_lt (by rw [BitVec.toNat_ofNat]; omega), BitVec.toNat_ofNat]
      omega
    exact (congrArg (min · _) q).trans (Nat.min_eq_left (Nat.le_sub_one_of_lt ht))
  | ⟨1, _⟩ =>
    have q : (pairs l (ix2 t 1)).toInt.toNat = j.val := by
      rw [pairs_1 l t (by omega), StableHlo.Predicate.toInt_eq_toNat_of_lt (by omega), h]
      omega
    exact (congrArg (min · _) q).trans (Nat.min_eq_left (Nat.le_sub_one_of_lt hj))

end Cert.ReferenceIdeal.Expected

end
-- ==== Proof.Shift.lean ====
/- The logarithm of a sum of exponentials, with and without the greatest exponent taken out. -/
module

public import Idealize.ShloMosaic.PureOps.Ideal
public import Mathlib.Analysis.SpecialFunctions.Log.Basic

@[expose] public section

noncomputable section

namespace Cert.Proof.Shift

open Idealize.ShloMosaic

/-- A sum of real numbers, taken among the extended reals. -/
theorem coe_sum {ι : Type} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

/-- An extended real that is a number. -/
def Num (v : EReal) : Prop := ∃ r : ℝ, v = r

/-- A sum of products of numbers is a number. -/
theorem Num.sum_mul {n : Nat} {f g : Fin n → EReal} (hf : ∀ i, Num (f i)) (hg : ∀ i, Num (g i)) : Num (∑ i, f i * g i) := by
  choose a ha using hf
  choose b hb using hg
  refine ⟨∑ i, a i * b i, ?_⟩
  rw [coe_sum]
  exact Finset.sum_congr rfl fun i _ => by rw [ha, hb, EReal.coe_mul]

/-- Some exponent is the greatest. -/
theorem greatest {n : Nat} (h : 0 < n) (f : Fin n → EReal) : ∃ i, Finset.univ.fold max ⊥ f = f i := by
  haveI : Nonempty (Fin n) := ⟨⟨0, h⟩⟩
  obtain ⟨i, _, e⟩ := Finset.exists_mem_eq_sup Finset.univ Finset.univ_nonempty f
  exact ⟨i, e⟩

/-- Taking a number out of the exponents and adding it back changes nothing. -/
theorem shift {n : Nat} (h : 0 < n) (r : Fin n → ℝ) (m : ℝ) :
    (m : EReal) + Ideal.log (∑ i, Ideal.exp ((r i : EReal) - (m : EReal))) = Ideal.log (∑ i, Ideal.exp (r i : EReal)) := by
  haveI : Nonempty (Fin n) := ⟨⟨0, h⟩⟩
  have pos : 0 < ∑ i, Real.exp (r i) := Finset.sum_pos (fun i _ => Real.exp_pos _) Finset.univ_nonempty
  have e : ∑ i, Real.exp (r i - m) = Real.exp (-m) * ∑ i, Real.exp (r i) := by
    rw [Finset.mul_sum]
    exact Finset.sum_congr rfl fun i _ => by rw [← Real.exp_add]; congr 1; ring
  have pos' : 0 < ∑ i, Real.exp (r i - m) := by rw [e]; exact mul_pos (Real.exp_pos _) pos
  have q : ∑ i, Ideal.exp ((r i : EReal) - (m : EReal)) = ((∑ i, Real.exp (r i - m) : ℝ) : EReal) := by
    rw [coe_sum]
    exact Finset.sum_congr rfl fun i _ => by rw [← EReal.coe_sub, Ideal.exp_coe]
  have q' : ∑ i, Ideal.exp (r i : EReal) = ((∑ i, Real.exp (r i) : ℝ) : EReal) := by
    rw [coe_sum]
    exact Finset.sum_congr rfl fun i _ => by rw [Ideal.exp_coe]
  rw [q, q', Ideal.log_coe, Ideal.log_coe, if_neg (not_le.2 pos'), if_neg (not_le.2 pos), ← EReal.coe_add, e,
    Real.log_mul (Real.exp_ne_zero _) pos.ne', Real.log_exp]
  congr 1
  ring

/-- The same with the greatest exponent taken out. -/
theorem shift_greatest {n : Nat} (h : 0 < n) (f : Fin n → EReal) (hf : ∀ i, Num (f i)) :
    Finset.univ.fold max ⊥ f + Ideal.log (∑ i, Ideal.exp (f i - Finset.univ.fold max ⊥ f)) = Ideal.log (∑ i, Ideal.exp (f i)) := by
  obtain ⟨i, e⟩ := greatest h f
  choose r hr using hf
  rw [e]
  simp only [hr]
  exact shift h r (r i)

end Cert.Proof.Shift

end
-- ==== Proof.Named.lean ====
/- What the precondition says: the entries of the activations and of the weights are numbers, and every label names a column. -/
module

public import proofs.«01_k».proof.Pre_finite_and_named_KernelIdeal
public import proofs.«01_k».proof.Pre_finite_and_named_ReferenceIdeal
public import proofs.«01_k».proof.Proof.Shift
public import Idealize.ShloMosaic.Lib.Pointwise
public import Idealize.ShloMosaic.Lib.Pointwise.IndexBridge
public import Idealize.ShloMosaic.Lib.StableHlo.Predicate

@[expose] public section

set_option maxRecDepth 16384

noncomputable section

namespace Cert.Proof.Named

open Idealize.ShloMosaic Cert.Proof.Shift

/-- The side conditions of the precondition read of a kernel's blocks. -/
theorem factsKernelIdeal : Cert.Pre_finite_and_named_KernelIdeal.Facts where
  bcast_S_S512x1024 := by decide
  reducesTo_S512x1024_S_d0_1 := by decide
  h_S_ := by decide
  bcast_S_S1024x8192 := by decide
  reducesTo_S1024x8192_S_d0_1 := by decide
  bcast_S_S512 := by decide
  reducesTo_S512_S_d0 := by decide

/-- The side conditions of the precondition read of the reference's arrays. -/
theorem factsReferenceIdeal : Cert.Pre_finite_and_named_ReferenceIdeal.Facts where
  bcast_S_S512x1024 := by decide
  reducesTo_S512x1024_S_d0_1 := by decide
  h_S_ := by decide
  bcast_S_S1024x16384 := by decide
  reducesTo_S1024x16384_S_d0_1 := by decide
  bcast_S_S512 := by decide
  reducesTo_S512_S_d0 := by decide

/-- A conjunction of two bits is true when both are. -/
theorem and_one (a b : BitVec 1) : IntOp.andi a b = 1#1 ↔ a = 1#1 ∧ b = 1#1 := by
  revert a b; decide

/-- A conjunction over a set is true only if every member is. -/
theorem fold_and {ι : Type} (s : Finset ι) (f : ι → BitVec 1) (h : s.fold IntOp.andi 1#1 f = 1#1) : ∀ i ∈ s, f i = 1#1 := by
  classical
  induction s using Finset.induction_on with
  | empty => intro i hi; exact absurd hi (Finset.notMem_empty i)
  | insert a s ha ih =>
    rw [Finset.fold_insert ha, and_one] at h
    intro i hi
    rcases Finset.mem_insert.1 hi with rfl | hi
    · exact h.1
    · exact ih h.2 i hi

/-- A reduction by conjunction to a scalar is true only if every entry is. -/
theorem reduce_and {s : Shape} {axes : List (Fin s.rank)} (f : IVec s 1) (h : s.ReducesTo axes ⟨0, ![]⟩) (hu : 0 < (⟨0, ![]⟩ : Shape).numel)
    (j : (⟨0, ![]⟩ : Shape).Idx) (e : Host.reduce IntOp.andi f (constantI ⟨0, ![]⟩ 1 1#1) h hu j = 1#1) (i : s.Idx) : f i = 1#1 := by
  rw [Host.reduce_eq_fold] at e
  exact fold_and _ _ e i (Finset.mem_filter.2 ⟨Finset.mem_univ _, funext fun a => a.elim0⟩)

/-- A value whose size is below infinity is a number. -/
theorem num_of_lt (v : EReal) (h : max v (-v) < ⊤) : Num v := by
  induction v using EReal.rec with
  | bot => simp at h
  | coe r => exact ⟨r, rfl⟩
  | top => simp at h

/-- The test for a number, at an entry. -/
theorem num_of_test {s : Shape} (v : FVec Ideal s .f32) (hb : (⟨0, ![]⟩ : Shape).BroadcastsInDim s ![]) (i : s.Idx)
    (h : cmpf .olt (Host.absf v) (broadcastInDim s ![] hb (constant (F := Ideal) ⟨0, ![]⟩ .f32 0x7F800000#32)) i = 1#1) : Num (v i) := by
  refine num_of_lt _ ?_
  have e : Ideal.ofBits .f32 0x7F800000#32 = ⊤ := by simp [Ideal.ofBits, Ideal.ieee]
  have h' : BitVec.ofBool (decide (max (v i : EReal) (-(v i : EReal)) < Ideal.ofBits .f32 0x7F800000#32)) = 1#1 := h
  rw [e, StableHlo.Predicate.ofBool_eq_one_iff, decide_eq_true_eq] at h'
  exact h'

/-- The test for a column's name. -/
theorem named_of_test (b : BitVec 32) (h : IntOp.andi (IntOp.cmpi .sge b 0#32) (IntOp.cmpi .slt b 16384#32) = 1#1) : b.toNat < 16384 := by
  rw [and_one] at h
  obtain ⟨h0, h1⟩ := h
  have h0' : BitVec.ofBool ((0#32).sle b) = 1#1 := h0
  have h1' : BitVec.ofBool (b.slt 16384#32) = 1#1 := h1
  rw [StableHlo.Predicate.ofBool_eq_one_iff] at h0' h1'
  have p : (0#32).toInt ≤ b.toInt := by simpa [BitVec.sle] using h0'
  have q : b.toInt < (16384#32).toInt := by simpa [BitVec.slt] using h1'
  have z : (0#32).toInt = 0 := by decide
  have y : (16384#32).toInt = 16384 := by decide
  rw [z] at p
  rw [y] at q
  rw [BitVec.toInt_eq_toNat_cond] at p q
  have := b.isLt
  split at p <;> omega

section
open Cert.Pre_finite_and_named_KernelIdeal

/-- The precondition of a device's blocks, read out. -/
theorem read [Facts] (x : FVec Ideal S512x1024 .f32) (w : FVec Ideal S1024x8192 .f32) (l : IVec S512 32) (h : fn x w l = fun _ => 1#1) :
    (∀ i, Num (x i)) ∧ (∀ i, Num (w i)) ∧ ∀ i, (l i).toNat < 16384 := by
  have h0 := congrFun h (Shape.Idx.first Facts.h_S_)
  unfold fn at h0
  obtain ⟨h1, hl⟩ := (and_one _ _).1 h0
  obtain ⟨hx, hw⟩ := (and_one _ _).1 h1
  exact ⟨fun i => num_of_test x Facts.bcast_S_S512x1024 i (reduce_and _ _ _ _ hx i),
    fun i => num_of_test w Facts.bcast_S_S1024x8192 i (reduce_and _ _ _ _ hw i),
    fun i => named_of_test (l i) (reduce_and _ _ _ _ hl i)⟩

end

end Cert.Proof.Named

end
-- ==== Proof.Value.lean ====
/- The kernel's result, on every device, is the reference's over the extended reals. -/
module

public import proofs.«01_k».proof.Defs
public import proofs.«01_k».proof.Proof.Columns
public import proofs.«01_k».proof.Proof.Expected
public import proofs.«01_k».proof.Proof.Named

@[expose] public section

set_option maxRecDepth 16384

noncomputable section

namespace Cert.Proof

open Idealize.ShloMosaic Idealize.ShloMosaic.TcCoe Idealize.SL.Sem Cert.Proof.Shift Cert.Proof.Named
open Cert.KernelIdeal.Talk (SW block logit)

/-- The side conditions of the two preconditions. -/
instance : Cert.Pre_finite_and_named_KernelIdeal.Facts := factsKernelIdeal
instance : Cert.Pre_finite_and_named_ReferenceIdeal.Facts := factsReferenceIdeal

/-- Every entry of the whole weight matrix is an entry of the block of some device. -/
theorem in_block (w : FVec Ideal SW .f32) (d : Fin 1024) (j : Fin 16384) : ∃ (c : Dev Cert.KernelIdeal.nD) (i : Cert.KernelIdeal.S1024x8192.Idx),
    block w c i = w (ix2 d j) := by
  have hj := j.isLt
  refine ⟨⟨2 * (j.val / 8192), by show _ < 8; omega⟩, ix2 d ⟨j.val % 8192, by omega⟩, ?_⟩
  generalize hc : (⟨2 * (j.val / 8192), _⟩ : Dev Cert.KernelIdeal.nD) = c
  have hv : c.val = 2 * (j.val / 8192) := by rw [← hc]
  rw [block, Layout.blockN_apply]
  refine congrArg w (funext fun a => Fin.ext ?_)
  match a with
  | ⟨0, _⟩ =>
    rw [Layout.TilesN.idx_val]
    show 0 * 1024 + d.val = d.val
    omega
  | ⟨1, _⟩ =>
    rw [Layout.TilesN.idx_val]
    have e : ((Layout.meshBlock [2, 2, 2] ![[], [1]] c : (b : Fin 2) → Fin _) 1).val = c.val / 2 % 2 := by clear hc hv; revert c; decide +kernel
    show ((Layout.meshBlock [2, 2, 2] ![[], [1]] c : (b : Fin 2) → Fin _) 1).val * 8192 + j.val % 8192 = j.val
    rw [e]
    omega

/-- The reference's result is the logarithm of the sum of the exponentials, less the logit at the label. -/
theorem expected (x : FVec Ideal Cert.ReferenceIdeal.S512x1024 .f32) (w : FVec Ideal SW .f32) (l : IVec Cert.ReferenceIdeal.S512 32)
    (hx : ∀ i, Num (x i)) (hw : ∀ d j, Num (w (ix2 d j))) (t : Fin 512) (j : Fin 16384) (hj : (l (ix1 t)).toNat = j.val) :
    Cert.ReferenceIdeal.Expected.out x w l (ix1 t) = Ideal.log (∑ i, Ideal.exp (logit x w t i)) - logit x w t j := by
  have hd : ∀ i : Fin 16384, Cert.ReferenceIdeal.Expected.dot x w (ix2 t i) = logit x w t i := Cert.ReferenceIdeal.Expected.dot_apply x w t
  have hn : ∀ i, Num (logit x w t i) := fun i => Num.sum_mul (fun d => hx (ix2 t d)) fun d => hw d i
  rw [Cert.ReferenceIdeal.Expected.out_apply, Cert.ReferenceIdeal.Expected.taken_apply x w l t j hj, Cert.ReferenceIdeal.Expected.sums_apply, Cert.ReferenceIdeal.Expected.top_apply]
  simp only [hd]
  exact congrArg (· - logit x w t j) (shift_greatest (by decide) (logit x w t) hn)

/-- The value claim: where every entry is a number and every label names a column, the two programs end with the same result. -/
theorem value : algebraic_KernelIdeal_ReferenceIdeal_pre_finite_and_named_KernelIdeal := by
  intro m g m' g' pre agree
  have num := fun c => Named.read _ _ _ (pre c)
  have hx := fun c => (agree c).1
  have hw : ∀ c : Dev Cert.KernelIdeal.nD, m ((c : Thread Cert.KernelIdeal.nD Cert.KernelIdeal.τ).loc Cert.KernelIdeal.main_arg1) =
      block (m' (((0 : Dev Cert.ReferenceIdeal.nD).tc : Thread Cert.ReferenceIdeal.nD Cert.ReferenceIdeal.τ).loc Cert.ReferenceIdeal.main_arg1)) c :=
    fun c => (agree c).2.1
  have hl := fun c => (agree c).2.2
  have ref := Cert.ReferenceIdeal.Value.run (F := Ideal) m' g'
  refine ⟨Cert.ReferenceIdeal.Expected.out (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2)), ?_, ?_⟩
  · refine (θ_run _ _ _).mono (fun r h c => ?_) (Cert.KernelIdeal.Talk.run_main m g)
    obtain ⟨h0, h1, h2, h3⟩ := h.1 c
    refine ⟨h3.trans (funext fun i => ?_), h0, h1, h2⟩
    obtain ⟨t, rfl⟩ : ∃ t : Fin 512, i = ix1 t := ⟨i 0, funext fun a => by match a with | ⟨0, _⟩ => rfl⟩
    have hb := (num c).2.2 (ix1 t)
    rw [hl c] at hb
    refine (Cert.KernelIdeal.Talk.outV_whole m _ _ _ hx hw hl c t ⟨_, hb⟩ rfl).trans (Eq.symm ?_)
    refine expected _ _ _ (fun i => ?_) (fun d j => ?_) t ⟨_, hb⟩ rfl
    · exact (congrFun (hx c) i).subst (motive := Num) ((num c).1 i)
    · obtain ⟨c', i, e⟩ := in_block (m' (((0 : Dev Cert.ReferenceIdeal.nD).tc : Thread Cert.ReferenceIdeal.nD Cert.ReferenceIdeal.τ).loc Cert.ReferenceIdeal.main_arg1)) d j
      exact e.subst (motive := Num) ((congrFun (hw c') i).subst (motive := Num) ((num c').2.1 i))
  · exact (θ_run _ _ _).mono (fun r h => h 0) ref

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

/-- Everything that the certificate claims. -/
theorem claim : Cert.Claim := ⟨Cert.Kernel.Gen.facts, Cert.KernelIdeal.Gen.facts, Cert.ReferenceIdeal.Gen.facts,
  Named.factsKernelIdeal, Named.factsReferenceIdeal, frame_kernel, frame_kernelIdeal, fun m g _ => frame_kernelIdeal m g trivial,
  frame_referenceIdeal, fun m g _ => frame_referenceIdeal m g trivial, trivial, value⟩

end Cert.Proof

end
